-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v71)) (v1 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_v73) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_in_domain : Cert.Pre_in_domain.Facts),
    quiescent_Kernel (hKernel := hKernel)
    ∧ quiescent_KernelIdeal (hKernelIdeal := hKernelIdeal)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ preserves_Kernel_KernelIdeal
    ∧ algebraic_KernelIdeal_ReferenceIdeal_pre_in_domain (hKernelIdeal := hKernelIdeal) (hReferenceIdeal := hReferenceIdeal) (hPre_in_domain := hPre_in_domain)
-- ==== Pre_in_domain.lean ====
abbrev S16x400 : Shape := ⟨2, ![16, 400]⟩
abbrev S16x50 : Shape := ⟨2, ![16, 50]⟩
abbrev S16x400x16 : Shape := ⟨3, ![16, 400, 16]⟩
abbrev S16x50x16 : Shape := ⟨3, ![16, 50, 16]⟩
abbrev S96x64 : Shape := ⟨2, ![96, 64]⟩
abbrev S300x64 : Shape := ⟨2, ![300, 64]⟩
abbrev S300x100 : Shape := ⟨2, ![300, 100]⟩
abbrev S300 : Shape := ⟨1, ![300]⟩
abbrev S_ : Shape := ⟨0, ![]⟩
abbrev S100x100 : Shape := ⟨2, ![100, 100]⟩
abbrev S100 : Shape := ⟨1, ![100]⟩

class Facts : Prop where
  bcast_S_S16x400x16 : S_.BroadcastsInDim S16x400x16 (![] : Fin 0 → Fin S16x400x16.rank)
  reducesTo_S16x400x16_S_d0_1_2 : S16x400x16.ReducesTo [0, 1, 2] S_
  h_S_ : 0 < S_.numel
  bcast_S_S16x50x16 : S_.BroadcastsInDim S16x50x16 (![] : Fin 0 → Fin S16x50x16.rank)
  reducesTo_S16x50x16_S_d0_1_2 : S16x50x16.ReducesTo [0, 1, 2] S_
  slices_S300x100_S100x100_200_0 : S300x100.Slices ![200, 0] S100x100
  bcast_S_S100x100 : S_.BroadcastsInDim S100x100 (![] : Fin 0 → Fin S100x100.rank)
  reducesTo_S100x100_S_d0_1 : S100x100.ReducesTo [0, 1] S_
  slices_S300_S100_200 : S300.Slices ![200] S100
  bcast_S_S100 : S_.BroadcastsInDim S100 (![] : Fin 0 → Fin S100.rank)
  reducesTo_S100_S_d0 : S100.ReducesTo [0] S_

variable [Facts]

def fn_part2 {F : FTy → Type} [FloatOps F] (main_v30 : IVec S_ 1) (main_v34 : IVec S100 1) : IVec S_ 1 :=
  let main_c_11 : IVec S_ 1 := constantI S_ 1 1#1
  let main_v35 : IVec S_ 1 := (fun x v => Host.reduce IntOp.andi x v reducesTo_S100_S_d0 h_S_) main_v34 main_c_11
  let main_v36 : IVec S_ 1 := andi main_v30 main_v35
  main_v36

def fn_part1 {F : FTy → Type} [FloatOps F] (main_arg8 : FVec F S300 .f32) (main_arg10 : FVec F S300x100 .f32) (main_arg12 : FVec F S300 .f32) (main_v12 : IVec S_ 1) (main_v16 : IVec S100x100 1) : IVec S_ 1 :=
  let main_c_5 : IVec S_ 1 := constantI S_ 1 1#1
  let main_v17 : IVec S_ 1 := (fun x v => Host.reduce IntOp.andi x v reducesTo_S100x100_S_d0_1 h_S_) main_v16 main_c_5
  let main_v18 : IVec S_ 1 := andi main_v12 main_v17
  let main_v19 : FVec F S100 .f32 := (extractStridedSlice S100 ![200] · slices_S300_S100_200) main_arg8
  let main_v20 : FVec F S100 .f32 := Host.absf main_v19
  let main_cst_6 : FVec F S_ .f32 := constant S_ .f32 0x7F800000#32
  let main_v21 : FVec F S100 .f32 := broadcastInDim S100 ![] bcast_S_S100 main_cst_6
  let main_v22 : IVec S100 1 := cmpf .olt main_v20 main_v21
  let main_c_7 : IVec S_ 1 := constantI S_ 1 1#1
  let main_v23 : IVec S_ 1 := (fun x v => Host.reduce IntOp.andi x v reducesTo_S100_S_d0 h_S_) main_v22 main_c_7
  let main_v24 : IVec S_ 1 := andi main_v18 main_v23
  let main_v25 : FVec F S100x100 .f32 := (extractStridedSlice S100x100 ![200, 0] · slices_S300x100_S100x100_200_0) main_arg10
  let main_v26 : FVec F S100x100 .f32 := Host.absf main_v25
  let main_cst_8 : FVec F S_ .f32 := constant S_ .f32 0x7F800000#32
  let main_v27 : FVec F S100x100 .f32 := broadcastInDim S100x100 ![] bcast_S_S100x100 main_cst_8
  let main_v28 : IVec S100x100 1 := cmpf .olt main_v26 main_v27
  let main_c_9 : IVec S_ 1 := constantI S_ 1 1#1
  let main_v29 : IVec S_ 1 := (fun x v => Host.reduce IntOp.andi x v reducesTo_S100x100_S_d0_1 h_S_) main_v28 main_c_9
  let main_v30 : IVec S_ 1 := andi main_v24 main_v29
  let main_v31 : FVec F S100 .f32 := (extractStridedSlice S100 ![200] · slices_S300_S100_200) main_arg12
  let main_v32 : FVec F S100 .f32 := Host.absf main_v31
  let main_cst_10 : FVec F S_ .f32 := constant S_ .f32 0x7F800000#32
  let main_v33 : FVec F S100 .f32 := broadcastInDim S100 ![] bcast_S_S100 main_cst_10
  let main_v34 : IVec S100 1 := cmpf .olt main_v32 main_v33
  fn_part2 (F := F) main_v30 main_v34

def fn {F : FTy → Type} [FloatOps F] (main_arg0 : IVec S16x400 32) (main_arg1 : IVec S16x50 32) (main_arg2 : IVec S16x400x16 32) (main_arg3 : IVec S16x50x16 32) (main_arg4 : FVec F S96x64 .f32) (main_arg5 : FVec F S300x64 .f32) (main_arg6 : FVec F S300x100 .f32) (main_arg7 : FVec F S300 .f32) (main_arg8 : FVec F S300 .f32) (main_arg9 : FVec F S300x64 .f32) (main_arg10 : FVec F S300x100 .f32) (main_arg11 : FVec F S300 .f32) (main_arg12 : FVec F S300 .f32) : IVec S_ 1 :=
  let main_c : IVec S_ 32 := constantI S_ 32 0#32
  let main_v0 : IVec S16x400x16 32 := broadcastInDim S16x400x16 ![] bcast_S_S16x400x16 main_c
  let main_v1 : IVec S16x400x16 1 := cmpi .sge main_arg2 main_v0
  let main_c_0 : IVec S_ 32 := constantI S_ 32 96#32
  let main_v2 : IVec S16x400x16 32 := broadcastInDim S16x400x16 ![] bcast_S_S16x400x16 main_c_0
  let main_v3 : IVec S16x400x16 1 := cmpi .slt main_arg2 main_v2
  let main_v4 : IVec S16x400x16 1 := andi main_v1 main_v3
  let main_c_1 : IVec S_ 1 := constantI S_ 1 1#1
  let main_v5 : IVec S_ 1 := (fun x v => Host.reduce IntOp.andi x v reducesTo_S16x400x16_S_d0_1_2 h_S_) main_v4 main_c_1
  let main_c_2 : IVec S_ 32 := constantI S_ 32 0#32
  let main_v6 : IVec S16x50x16 32 := broadcastInDim S16x50x16 ![] bcast_S_S16x50x16 main_c_2
  let main_v7 : IVec S16x50x16 1 := cmpi .sge main_arg3 main_v6
  let main_c_3 : IVec S_ 32 := constantI S_ 32 96#32
  let main_v8 : IVec S16x50x16 32 := broadcastInDim S16x50x16 ![] bcast_S_S16x50x16 main_c_3
  let main_v9 : IVec S16x50x16 1 := cmpi .slt main_arg3 main_v8
  let main_v10 : IVec S16x50x16 1 := andi main_v7 main_v9
  let main_c_4 : IVec S_ 1 := constantI S_ 1 1#1
  let main_v11 : IVec S_ 1 := (fun x v => Host.reduce IntOp.andi x v reducesTo_S16x50x16_S_d0_1_2 h_S_) main_v10 main_c_4
  let main_v12 : IVec S_ 1 := andi main_v5 main_v11
  let main_v13 : FVec F S100x100 .f32 := (extractStridedSlice S100x100 ![200, 0] · slices_S300x100_S100x100_200_0) main_arg6
  let main_v14 : FVec F S100x100 .f32 := Host.absf main_v13
  let main_cst : FVec F S_ .f32 := constant S_ .f32 0x7F800000#32
  let main_v15 : FVec F S100x100 .f32 := broadcastInDim S100x100 ![] bcast_S_S100x100 main_cst
  let main_v16 : IVec S100x100 1 := cmpf .olt main_v14 main_v15
  fn_part1 (F := F) main_arg8 main_arg10 main_arg12 main_v12 main_v16
-- ==== Kernel.lean ====
abbrev S16x400 : Shape := ⟨2, ![16, 400]⟩
abbrev S16x50 : Shape := ⟨2, ![16, 50]⟩
abbrev S16x400x16 : Shape := ⟨3, ![16, 400, 16]⟩
abbrev S16x50x16 : Shape := ⟨3, ![16, 50, 16]⟩
abbrev S96x64 : Shape := ⟨2, ![96, 64]⟩
abbrev S300x64 : Shape := ⟨2, ![300, 64]⟩
abbrev S300x100 : Shape := ⟨2, ![300, 100]⟩
abbrev S300 : Shape := ⟨1, ![300]⟩
abbrev S3 : Shape := ⟨1, ![3]⟩
abbrev S3x1x1 : Shape := ⟨3, ![3, 1, 1]⟩
abbrev S3x100x64 : Shape := ⟨3, ![3, 100, 64]⟩
abbrev S_ : Shape := ⟨0, ![]⟩
abbrev S3x128x64 : Shape := ⟨3, ![3, 128, 64]⟩
abbrev S384x64 : Shape := ⟨2, ![384, 64]⟩
abbrev S64x384 : Shape := ⟨2, ![64, 384]⟩
abbrev S3x100x100 : Shape := ⟨3, ![3, 100, 100]⟩
abbrev S3x128x100 : Shape := ⟨3, ![3, 128, 100]⟩
abbrev S384x100 : Shape := ⟨2, ![384, 100]⟩
abbrev S100x384 : Shape := ⟨2, ![100, 384]⟩
abbrev S128x384 : Shape := ⟨2, ![128, 384]⟩
abbrev S3x1 : Shape := ⟨2, ![3, 1]⟩
abbrev S3x100 : Shape := ⟨2, ![3, 100]⟩
abbrev S3x128 : Shape := ⟨2, ![3, 128]⟩
abbrev S1x384 : Shape := ⟨2, ![1, 384]⟩
abbrev S1x128 : Shape := ⟨2, ![1, 128]⟩
abbrev S6400x16 : Shape := ⟨2, ![6400, 16]⟩
abbrev S6400x200 : Shape := ⟨2, ![6400, 200]⟩
abbrev S800x16 : Shape := ⟨2, ![800, 16]⟩
abbrev S800x200 : Shape := ⟨2, ![800, 200]⟩
abbrev S8x128 : Shape := ⟨2, ![8, 128]⟩
abbrev S800 : Shape := ⟨1, ![800]⟩
abbrev S800x1 : Shape := ⟨2, ![800, 1]⟩
abbrev S800x96 : Shape := ⟨2, ![800, 96]⟩
abbrev S96x384 : Shape := ⟨2, ![96, 384]⟩
abbrev S800x128 : Shape := ⟨2, ![800, 128]⟩
abbrev S800x384 : Shape := ⟨2, ![800, 384]⟩
abbrev S800x100 : Shape := ⟨2, ![800, 100]⟩

abbrev nBuf : Space → Nat
  | .hbm => 121
  | .vmem => 26
  | .smem => 0
  | _ => 0

abbrev bufTy : (tb : Table) → Fin (tcTables nBuf tb) → BufTy
  | .hbm, ⟨0, _⟩ => ⟨S16x400, .i32⟩
  | .hbm, ⟨1, _⟩ => ⟨S16x50, .i32⟩
  | .hbm, ⟨2, _⟩ => ⟨S16x400x16, .i32⟩
  | .hbm, ⟨3, _⟩ => ⟨S16x50x16, .i32⟩
  | .hbm, ⟨4, _⟩ => ⟨S96x64, .f32⟩
  | .hbm, ⟨5, _⟩ => ⟨S300x64, .f32⟩
  | .hbm, ⟨6, _⟩ => ⟨S300x100, .f32⟩
  | .hbm, ⟨7, _⟩ => ⟨S300, .f32⟩
  | .hbm, ⟨8, _⟩ => ⟨S300, .f32⟩
  | .hbm, ⟨9, _⟩ => ⟨S300x64, .f32⟩
  | .hbm, ⟨10, _⟩ => ⟨S300x100, .f32⟩
  | .hbm, ⟨11, _⟩ => ⟨S300, .f32⟩
  | .hbm, ⟨12, _⟩ => ⟨S300, .f32⟩
  | .hbm, ⟨13, _⟩ => ⟨S3, .f32⟩
  | .hbm, ⟨14, _⟩ => ⟨S3, .f32⟩
  | .hbm, ⟨15, _⟩ => ⟨S3, .f32⟩
  | .hbm, ⟨16, _⟩ => ⟨S3, .f32⟩
  | .hbm, ⟨17, _⟩ => ⟨S3, .f32⟩
  | .hbm, ⟨18, _⟩ => ⟨S3, .f32⟩
  | .hbm, ⟨19, _⟩ => ⟨S3, .f32⟩
  | .hbm, ⟨20, _⟩ => ⟨S3, .f32⟩
  | .hbm, ⟨21, _⟩ => ⟨S3, .f32⟩
  | .hbm, ⟨22, _⟩ => ⟨S3, .f32⟩
  | .hbm, ⟨23, _⟩ => ⟨S3x1x1, .f32⟩
  | .hbm, ⟨24, _⟩ => ⟨S3x100x64, .f32⟩
  | .hbm, ⟨25, _⟩ => ⟨S3x100x64, .f32⟩
  | .hbm, ⟨26, _⟩ => ⟨S3x100x64, .f32⟩
  | .hbm, ⟨27, _⟩ => ⟨S_, .i32⟩
  | .hbm, ⟨28, _⟩ => ⟨S_, .f32⟩
  | .hbm, ⟨29, _⟩ => ⟨S3x128x64, .f32⟩
  | .hbm, ⟨30, _⟩ => ⟨S384x64, .f32⟩
  | .hbm, ⟨31, _⟩ => ⟨S64x384, .f32⟩
  | .hbm, ⟨32, _⟩ => ⟨S3x1x1, .f32⟩
  | .hbm, ⟨33, _⟩ => ⟨S3x100x64, .f32⟩
  | .hbm, ⟨34, _⟩ => ⟨S3x100x64, .f32⟩
  | .hbm, ⟨35, _⟩ => ⟨S3x100x64, .f32⟩
  | .hbm, ⟨36, _⟩ => ⟨S_, .i32⟩
  | .hbm, ⟨37, _⟩ => ⟨S_, .f32⟩
  | .hbm, ⟨38, _⟩ => ⟨S3x128x64, .f32⟩
  | .hbm, ⟨39, _⟩ => ⟨S384x64, .f32⟩
  | .hbm, ⟨40, _⟩ => ⟨S64x384, .f32⟩
  | .hbm, ⟨41, _⟩ => ⟨S3x1x1, .f32⟩
  | .hbm, ⟨42, _⟩ => ⟨S3x100x100, .f32⟩
  | .hbm, ⟨43, _⟩ => ⟨S3x100x100, .f32⟩
  | .hbm, ⟨44, _⟩ => ⟨S3x100x100, .f32⟩
  | .hbm, ⟨45, _⟩ => ⟨S_, .i32⟩
  | .hbm, ⟨46, _⟩ => ⟨S_, .f32⟩
  | .hbm, ⟨47, _⟩ => ⟨S3x128x100, .f32⟩
  | .hbm, ⟨48, _⟩ => ⟨S384x100, .f32⟩
  | .hbm, ⟨49, _⟩ => ⟨S100x384, .f32⟩
  | .hbm, ⟨50, _⟩ => ⟨S_, .i32⟩
  | .hbm, ⟨51, _⟩ => ⟨S_, .f32⟩
  | .hbm, ⟨52, _⟩ => ⟨S128x384, .f32⟩
  | .hbm, ⟨53, _⟩ => ⟨S3x1x1, .f32⟩
  | .hbm, ⟨54, _⟩ => ⟨S3x100x100, .f32⟩
  | .hbm, ⟨55, _⟩ => ⟨S3x100x100, .f32⟩
  | .hbm, ⟨56, _⟩ => ⟨S3x100x100, .f32⟩
  | .hbm, ⟨57, _⟩ => ⟨S_, .i32⟩
  | .hbm, ⟨58, _⟩ => ⟨S_, .f32⟩
  | .hbm, ⟨59, _⟩ => ⟨S3x128x100, .f32⟩
  | .hbm, ⟨60, _⟩ => ⟨S384x100, .f32⟩
  | .hbm, ⟨61, _⟩ => ⟨S100x384, .f32⟩
  | .hbm, ⟨62, _⟩ => ⟨S_, .i32⟩
  | .hbm, ⟨63, _⟩ => ⟨S_, .f32⟩
  | .hbm, ⟨64, _⟩ => ⟨S128x384, .f32⟩
  | .hbm, ⟨65, _⟩ => ⟨S3x1, .f32⟩
  | .hbm, ⟨66, _⟩ => ⟨S3x100, .f32⟩
  | .hbm, ⟨67, _⟩ => ⟨S3x100, .f32⟩
  | .hbm, ⟨68, _⟩ => ⟨S3x100, .f32⟩
  | .hbm, ⟨69, _⟩ => ⟨S_, .i32⟩
  | .hbm, ⟨70, _⟩ => ⟨S_, .f32⟩
  | .hbm, ⟨71, _⟩ => ⟨S3x128, .f32⟩
  | .hbm, ⟨72, _⟩ => ⟨S1x384, .f32⟩
  | .hbm, ⟨73, _⟩ => ⟨S3x1, .f32⟩
  | .hbm, ⟨74, _⟩ => ⟨S3x100, .f32⟩
  | .hbm, ⟨75, _⟩ => ⟨S3x100, .f32⟩
  | .hbm, ⟨76, _⟩ => ⟨S3x100, .f32⟩
  | .hbm, ⟨77, _⟩ => ⟨S_, .i32⟩
  | .hbm, ⟨78, _⟩ => ⟨S_, .f32⟩
  | .hbm, ⟨79, _⟩ => ⟨S3x128, .f32⟩
  | .hbm, ⟨80, _⟩ => ⟨S1x384, .f32⟩
  | .hbm, ⟨81, _⟩ => ⟨S1x384, .f32⟩
  | .hbm, ⟨82, _⟩ => ⟨S3x1, .f32⟩
  | .hbm, ⟨83, _⟩ => ⟨S3x100, .f32⟩
  | .hbm, ⟨84, _⟩ => ⟨S3x100, .f32⟩
  | .hbm, ⟨85, _⟩ => ⟨S3x100, .f32⟩
  | .hbm, ⟨86, _⟩ => ⟨S_, .i32⟩
  | .hbm, ⟨87, _⟩ => ⟨S_, .f32⟩
  | .hbm, ⟨88, _⟩ => ⟨S3x128, .f32⟩
  | .hbm, ⟨89, _⟩ => ⟨S1x384, .f32⟩
  | .hbm, ⟨90, _⟩ => ⟨S3x1, .f32⟩
  | .hbm, ⟨91, _⟩ => ⟨S3x100, .f32⟩
  | .hbm, ⟨92, _⟩ => ⟨S3x100, .f32⟩
  | .hbm, ⟨93, _⟩ => ⟨S3x100, .f32⟩
  | .hbm, ⟨94, _⟩ => ⟨S_, .i32⟩
  | .hbm, ⟨95, _⟩ => ⟨S_, .f32⟩
  | .hbm, ⟨96, _⟩ => ⟨S3x128, .f32⟩
  | .hbm, ⟨97, _⟩ => ⟨S1x384, .f32⟩
  | .hbm, ⟨98, _⟩ => ⟨S1x384, .f32⟩
  | .hbm, ⟨99, _⟩ => ⟨S3x1, .f32⟩
  | .hbm, ⟨100, _⟩ => ⟨S3x100, .f32⟩
  | .hbm, ⟨101, _⟩ => ⟨S3x100, .f32⟩
  | .hbm, ⟨102, _⟩ => ⟨S3x100, .f32⟩
  | .hbm, ⟨103, _⟩ => ⟨S_, .i32⟩
  | .hbm, ⟨104, _⟩ => ⟨S_, .f32⟩
  | .hbm, ⟨105, _⟩ => ⟨S3x128, .f32⟩
  | .hbm, ⟨106, _⟩ => ⟨S1x384, .f32⟩
  | .hbm, ⟨107, _⟩ => ⟨S1x128, .f32⟩
  | .hbm, ⟨108, _⟩ => ⟨S3x1, .f32⟩
  | .hbm, ⟨109, _⟩ => ⟨S3x100, .f32⟩
  | .hbm, ⟨110, _⟩ => ⟨S3x100, .f32⟩
  | .hbm, ⟨111, _⟩ => ⟨S3x100, .f32⟩
  | .hbm, ⟨112, _⟩ => ⟨S_, .i32⟩
  | .hbm, ⟨113, _⟩ => ⟨S_, .f32⟩
  | .hbm, ⟨114, _⟩ => ⟨S3x128, .f32⟩
  | .hbm, ⟨115, _⟩ => ⟨S1x384, .f32⟩
  | .hbm, ⟨116, _⟩ => ⟨S1x128, .f32⟩
  | .hbm, ⟨117, _⟩ => ⟨S6400x16, .i32⟩
  | .hbm, ⟨118, _⟩ => ⟨S6400x200, .f32⟩
  | .hbm, ⟨119, _⟩ => ⟨S800x16, .i32⟩
  | .hbm, ⟨120, _⟩ => ⟨S800x200, .f32⟩
  | .local _ .vmem, ⟨0, _⟩ => ⟨S800x16, .i32⟩
  | .local _ .vmem, ⟨1, _⟩ => ⟨S800x16, .i32⟩
  | .local _ .vmem, ⟨2, _⟩ => ⟨S96x64, .f32⟩
  | .local _ .vmem, ⟨3, _⟩ => ⟨S64x384, .f32⟩
  | .local _ .vmem, ⟨4, _⟩ => ⟨S128x384, .f32⟩
  | .local _ .vmem, ⟨5, _⟩ => ⟨S1x384, .f32⟩
  | .local _ .vmem, ⟨6, _⟩ => ⟨S1x128, .f32⟩
  | .local _ .vmem, ⟨7, _⟩ => ⟨S64x384, .f32⟩
  | .local _ .vmem, ⟨8, _⟩ => ⟨S128x384, .f32⟩
  | .local _ .vmem, ⟨9, _⟩ => ⟨S1x384, .f32⟩
  | .local _ .vmem, ⟨10, _⟩ => ⟨S1x128, .f32⟩
  | .local _ .vmem, ⟨11, _⟩ => ⟨S800x200, .f32⟩
  | .local _ .vmem, ⟨12, _⟩ => ⟨S800x200, .f32⟩
  | .local _ .vmem, ⟨13, _⟩ => ⟨S8x128, .f32⟩
  | .local _ .vmem, ⟨14, _⟩ => ⟨S800x16, .i32⟩
  | .local _ .vmem, ⟨15, _⟩ => ⟨S96x64, .f32⟩
  | .local _ .vmem, ⟨16, _⟩ => ⟨S64x384, .f32⟩
  | .local _ .vmem, ⟨17, _⟩ => ⟨S128x384, .f32⟩
  | .local _ .vmem, ⟨18, _⟩ => ⟨S1x384, .f32⟩
  | .local _ .vmem, ⟨19, _⟩ => ⟨S1x128, .f32⟩
  | .local _ .vmem, ⟨20, _⟩ => ⟨S64x384, .f32⟩
  | .local _ .vmem, ⟨21, _⟩ => ⟨S128x384, .f32⟩
  | .local _ .vmem, ⟨22, _⟩ => ⟨S1x384, .f32⟩
  | .local _ .vmem, ⟨23, _⟩ => ⟨S1x128, .f32⟩
  | .local _ .vmem, ⟨24, _⟩ => ⟨S800x200, .f32⟩
  | .local _ .vmem, ⟨25, _⟩ => ⟨S8x128, .f32⟩
  | _, _ => ⟨S16x400, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_cst_0 : Ref sig .tc := ⟨.hbm, 14, rfl⟩
abbrev main_cst_1 : Ref sig .tc := ⟨.hbm, 15, rfl⟩
abbrev main_cst_2 : Ref sig .tc := ⟨.hbm, 16, rfl⟩
abbrev main_cst_3 : Ref sig .tc := ⟨.hbm, 17, rfl⟩
abbrev main_cst_4 : Ref sig .tc := ⟨.hbm, 18, rfl⟩
abbrev main_cst_5 : Ref sig .tc := ⟨.hbm, 19, rfl⟩
abbrev main_cst_6 : Ref sig .tc := ⟨.hbm, 20, rfl⟩
abbrev main_cst_7 : Ref sig .tc := ⟨.hbm, 21, rfl⟩
abbrev main_cst_8 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_call0_v0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_9 : Ref sig .tc := ⟨.hbm, 36, rfl⟩
abbrev main_call1_v0 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_10 : Ref sig .tc := ⟨.hbm, 45, rfl⟩
abbrev main_call2_v0 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c_11 : Ref sig .tc := ⟨.hbm, 50, rfl⟩
abbrev main_call3_v0 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_c_12 : Ref sig .tc := ⟨.hbm, 57, rfl⟩
abbrev main_call4_v0 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_c_13 : Ref sig .tc := ⟨.hbm, 62, rfl⟩
abbrev main_call5_v0 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_c_14 : Ref sig .tc := ⟨.hbm, 69, rfl⟩
abbrev main_call6_v0 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_c_15 : Ref sig .tc := ⟨.hbm, 77, rfl⟩
abbrev main_call7_v0 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_c_16 : Ref sig .tc := ⟨.hbm, 86, rfl⟩
abbrev main_call8_v0 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_c_17 : Ref sig .tc := ⟨.hbm, 94, rfl⟩
abbrev main_call9_v0 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_c_18 : Ref sig .tc := ⟨.hbm, 103, rfl⟩
abbrev main_call10_v0 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_c_19 : Ref sig .tc := ⟨.hbm, 112, rfl⟩
abbrev main_call11_v0 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc1_sem0_0 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S800x16 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S800x200 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S800x16 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S96x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x384 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x384 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S800x200 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![true]
-- ==== ReferenceIdeal.lean ====
abbrev S16x400 : Shape := ⟨2, ![16, 400]⟩
abbrev S16x50 : Shape := ⟨2, ![16, 50]⟩
abbrev S16x400x16 : Shape := ⟨3, ![16, 400, 16]⟩
abbrev S16x50x16 : Shape := ⟨3, ![16, 50, 16]⟩
abbrev S96x64 : Shape := ⟨2, ![96, 64]⟩
abbrev S300x64 : Shape := ⟨2, ![300, 64]⟩
abbrev S300x100 : Shape := ⟨2, ![300, 100]⟩
abbrev S300 : Shape := ⟨1, ![300]⟩
abbrev S6400x16 : Shape := ⟨2, ![6400, 16]⟩
abbrev S800x16 : Shape := ⟨2, ![800, 16]⟩
abbrev S7200x16 : Shape := ⟨2, ![7200, 16]⟩
abbrev S_ : Shape := ⟨0, ![]⟩
abbrev S7200 : Shape := ⟨1, ![7200]⟩
abbrev S16 : Shape := ⟨1, ![16]⟩
abbrev S1x16 : Shape := ⟨2, ![1, 16]⟩
abbrev S7200x1 : Shape := ⟨2, ![7200, 1]⟩
abbrev S7200x16x1 : Shape := ⟨3, ![7200, 16, 1]⟩
abbrev S1 : Shape := ⟨1, ![1]⟩
abbrev S1x1x1 : Shape := ⟨3, ![1, 1, 1]⟩
abbrev S7200x16x64 : Shape := ⟨3, ![7200, 16, 64]⟩
abbrev S16x7200x64 : Shape := ⟨3, ![16, 7200, 64]⟩
abbrev S16x7200 : Shape := ⟨2, ![16, 7200]⟩
abbrev S7200x100 : Shape := ⟨2, ![7200, 100]⟩
abbrev S1x7200x64 : Shape := ⟨3, ![1, 7200, 64]⟩
abbrev S7200x64 : Shape := ⟨2, ![7200, 64]⟩
abbrev S1x7200 : Shape := ⟨2, ![1, 7200]⟩
abbrev S64x300 : Shape := ⟨2, ![64, 300]⟩
abbrev S7200x300 : Shape := ⟨2, ![7200, 300]⟩
abbrev S1x300 : Shape := ⟨2, ![1, 300]⟩
abbrev S100x300 : Shape := ⟨2, ![100, 300]⟩
abbrev S7200x200 : Shape := ⟨2, ![7200, 200]⟩
abbrev S6400x200 : Shape := ⟨2, ![6400, 200]⟩
abbrev S800x200 : Shape := ⟨2, ![800, 200]⟩

abbrev nBuf : Space → Nat
  | .hbm => 186
  | .vmem => 0
  | .smem => 0
  | _ => 0

abbrev hbmTy0_0 (i : Nat) : BufTy := match i % 128 with
  | 0 => ⟨S16x400, .i32⟩
  | 1 => ⟨S16x50, .i32⟩
  | 2 => ⟨S16x400x16, .i32⟩
  | 3 => ⟨S16x50x16, .i32⟩
  | 4 => ⟨S96x64, .f32⟩
  | 5 => ⟨S300x64, .f32⟩
  | 6 => ⟨S300x100, .f32⟩
  | 7 => ⟨S300, .f32⟩
  | 8 => ⟨S300, .f32⟩
  | 9 => ⟨S300x64, .f32⟩
  | 10 => ⟨S300x100, .f32⟩
  | 11 => ⟨S300, .f32⟩
  | 12 => ⟨S300, .f32⟩
  | 13 => ⟨S6400x16, .i32⟩
  | 14 => ⟨S800x16, .i32⟩
  | 15 => ⟨S7200x16, .i32⟩
  | 16 => ⟨S_, .i32⟩
  | 17 => ⟨S7200x16, .i32⟩
  | 18 => ⟨S7200x16, .i1⟩
  | 19 => ⟨S7200x16, .i32⟩
  | 20 => ⟨S_, .i32⟩
  | 21 => ⟨S7200, .i32⟩
  | 22 => ⟨S16, .i32⟩
  | 23 => ⟨S1x16, .i32⟩
  | 24 => ⟨S7200x1, .i32⟩
  | 25 => ⟨S7200x16, .i32⟩
  | 26 => ⟨S7200x16, .i32⟩
  | 27 => ⟨S7200x16, .i1⟩
  | 28 => ⟨S_, .i32⟩
  | 29 => ⟨S7200x16, .i32⟩
  | 30 => ⟨S7200x16, .i1⟩
  | 31 => ⟨S_, .i32⟩
  | 32 => ⟨S7200x16, .i32⟩
  | 33 => ⟨S7200x16, .i32⟩
  | 34 => ⟨S7200x16, .i32⟩
  | 35 => ⟨S7200x16x1, .i32⟩
  | 36 => ⟨S1, .i32⟩
  | 37 => ⟨S_, .i32⟩
  | 38 => ⟨S7200x16x1, .i32⟩
  | 39 => ⟨S7200x16x1, .i1⟩
  | 40 => ⟨S1x1x1, .i32⟩
  | 41 => ⟨S7200x16x1, .i32⟩
  | 42 => ⟨S7200x16x1, .i1⟩
  | 43 => ⟨S7200x16x1, .i1⟩
  | 44 => ⟨S_, .i1⟩
  | 45 => ⟨S7200x16, .i1⟩
  | 46 => ⟨S7200x16x64, .f32⟩
  | 47 => ⟨S7200x16x64, .i1⟩
  | 48 => ⟨S_, .f32⟩
  | 49 => ⟨S7200x16x64, .f32⟩
  | 50 => ⟨S7200x16x64, .f32⟩
  | 51 => ⟨S16x7200x64, .f32⟩
  | 52 => ⟨S16x7200, .i1⟩
  | 53 => ⟨S_, .f32⟩
  | 54 => ⟨S7200x100, .f32⟩
  | 55 => ⟨S16x7200x64, .f32⟩
  | 56 => ⟨S16x7200, .i1⟩
  | 57 => ⟨S_, .i32⟩
  | 58 => ⟨S16x7200x64, .f32⟩
  | 59 => ⟨S16x7200, .i1⟩
  | 60 => ⟨S16x7200x64, .f32⟩
  | 61 => ⟨S16x7200, .i1⟩
  | 62 => ⟨S300x64, .f32⟩
  | 63 => ⟨S300, .f32⟩
  | 64 => ⟨S300x100, .f32⟩
  | 65 => ⟨S300, .f32⟩
  | 66 => ⟨S300x64, .f32⟩
  | 67 => ⟨S300, .f32⟩
  | 68 => ⟨S300x100, .f32⟩
  | 69 => ⟨S300, .f32⟩
  | 70 => ⟨S_, .i32⟩
  | 71 => ⟨S7200x100, .f32⟩
  | 72 => ⟨S7200x100, .f32⟩
  | 73 => ⟨S_, .i32⟩
  | 74 => ⟨S_, .i1⟩
  | 75 => ⟨S_, .i32⟩
  | 76 => ⟨S_, .i32⟩
  | 77 => ⟨S1x7200x64, .f32⟩
  | 78 => ⟨S7200x64, .f32⟩
  | 79 => ⟨S_, .i32⟩
  | 80 => ⟨S1x7200, .i1⟩
  | 81 => ⟨S7200, .i1⟩
  | 82 => ⟨S_, .i32⟩
  | 83 => ⟨S_, .i32⟩
  | 84 => ⟨S1x7200x64, .f32⟩
  | 85 => ⟨S7200x64, .f32⟩
  | 86 => ⟨S_, .i32⟩
  | 87 => ⟨S1x7200, .i1⟩
  | 88 => ⟨S7200, .i1⟩
  | 89 => ⟨S64x300, .f32⟩
  | 90 => ⟨S7200x300, .f32⟩
  | 91 => ⟨S1x300, .f32⟩
  | 92 => ⟨S7200x300, .f32⟩
  | 93 => ⟨S7200x300, .f32⟩
  | 94 => ⟨S100x300, .f32⟩
  | 95 => ⟨S7200x300, .f32⟩
  | 96 => ⟨S1x300, .f32⟩
  | 97 => ⟨S7200x300, .f32⟩
  | 98 => ⟨S7200x300, .f32⟩
  | 99 => ⟨S7200x100, .f32⟩
  | 100 => ⟨S7200x100, .f32⟩
  | 101 => ⟨S7200x100, .f32⟩
  | 102 => ⟨S7200x100, .f32⟩
  | 103 => ⟨S7200x100, .f32⟩
  | 104 => ⟨S7200x100, .f32⟩
  | 105 => ⟨S7200x100, .f32⟩
  | 106 => ⟨S7200x100, .f32⟩
  | 107 => ⟨S7200x100, .f32⟩
  | 108 => ⟨S_, .f32⟩
  | 109 => ⟨S7200x100, .f32⟩
  | 110 => ⟨S7200x100, .f32⟩
  | 111 => ⟨S_, .f32⟩
  | 112 => ⟨S7200x100, .f32⟩
  | 113 => ⟨S7200x100, .f32⟩
  | 114 => ⟨S7200x100, .f32⟩
  | 115 => ⟨S7200x100, .f32⟩
  | 116 => ⟨S7200x100, .f32⟩
  | 117 => ⟨S_, .f32⟩
  | 118 => ⟨S7200x100, .f32⟩
  | 119 => ⟨S7200x100, .f32⟩
  | 120 => ⟨S_, .f32⟩
  | 121 => ⟨S7200x100, .f32⟩
  | 122 => ⟨S7200x100, .f32⟩
  | 123 => ⟨S7200x100, .f32⟩
  | 124 => ⟨S7200x100, .f32⟩
  | 125 => ⟨S7200x100, .f32⟩
  | 126 => ⟨S_, .f32⟩
  | 127 => ⟨S7200x100, .f32⟩
  | _ => ⟨S16x400, .i32⟩

abbrev hbmTy0_1 (i : Nat) : BufTy := match i % 128 with
  | 0 => ⟨S7200x100, .f32⟩
  | 1 => ⟨S7200x100, .f32⟩
  | 2 => ⟨S7200x100, .f32⟩
  | 3 => ⟨S7200x100, .f32⟩
  | 4 => ⟨S64x300, .f32⟩
  | 5 => ⟨S7200x300, .f32⟩
  | 6 => ⟨S1x300, .f32⟩
  | 7 => ⟨S7200x300, .f32⟩
  | 8 => ⟨S7200x300, .f32⟩
  | 9 => ⟨S100x300, .f32⟩
  | 10 => ⟨S7200x300, .f32⟩
  | 11 => ⟨S1x300, .f32⟩
  | 12 => ⟨S7200x300, .f32⟩
  | 13 => ⟨S7200x300, .f32⟩
  | 14 => ⟨S7200x100, .f32⟩
  | 15 => ⟨S7200x100, .f32⟩
  | 16 => ⟨S7200x100, .f32⟩
  | 17 => ⟨S7200x100, .f32⟩
  | 18 => ⟨S7200x100, .f32⟩
  | 19 => ⟨S7200x100, .f32⟩
  | 20 => ⟨S7200x100, .f32⟩
  | 21 => ⟨S7200x100, .f32⟩
  | 22 => ⟨S7200x100, .f32⟩
  | 23 => ⟨S_, .f32⟩
  | 24 => ⟨S7200x100, .f32⟩
  | 25 => ⟨S7200x100, .f32⟩
  | 26 => ⟨S_, .f32⟩
  | 27 => ⟨S7200x100, .f32⟩
  | 28 => ⟨S7200x100, .f32⟩
  | 29 => ⟨S7200x100, .f32⟩
  | 30 => ⟨S7200x100, .f32⟩
  | 31 => ⟨S7200x100, .f32⟩
  | 32 => ⟨S_, .f32⟩
  | 33 => ⟨S7200x100, .f32⟩
  | 34 => ⟨S7200x100, .f32⟩
  | 35 => ⟨S_, .f32⟩
  | 36 => ⟨S7200x100, .f32⟩
  | 37 => ⟨S7200x100, .f32⟩
  | 38 => ⟨S7200x100, .f32⟩
  | 39 => ⟨S7200x100, .f32⟩
  | 40 => ⟨S7200x100, .f32⟩
  | 41 => ⟨S_, .f32⟩
  | 42 => ⟨S7200x100, .f32⟩
  | 43 => ⟨S7200x100, .f32⟩
  | 44 => ⟨S7200x100, .f32⟩
  | 45 => ⟨S7200x100, .f32⟩
  | 46 => ⟨S7200x100, .f32⟩
  | 47 => ⟨S7200x1, .i1⟩
  | 48 => ⟨S7200x100, .i1⟩
  | 49 => ⟨S7200x100, .f32⟩
  | 50 => ⟨S7200x1, .i1⟩
  | 51 => ⟨S7200x100, .i1⟩
  | 52 => ⟨S7200x100, .f32⟩
  | 53 => ⟨S_, .i32⟩
  | 54 => ⟨S_, .i32⟩
  | 55 => ⟨S7200x200, .f32⟩
  | 56 => ⟨S6400x200, .f32⟩
  | 57 => ⟨S800x200, .f32⟩
  | _ => ⟨S16x400, .i32⟩

abbrev hbmTy (i : Nat) : BufTy := match i / 128 with
  | 0 => hbmTy0_0 i
  | 1 => hbmTy0_1 i
  | _ => ⟨S16x400, .i32⟩

abbrev bufTy : (tb : Table) → Fin (tcTables nBuf tb) → BufTy
  | .hbm, ⟨i, _⟩ => hbmTy i
  | _, _ => ⟨S16x400, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_cst : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_c_1 : Ref sig .tc := ⟨.hbm, 57, rfl⟩
abbrev main_v19_0 : Ref sig .tc := ⟨.hbm, 58, rfl⟩
abbrev main_v19_1 : Ref sig .tc := ⟨.hbm, 59, rfl⟩
abbrev main_v19_2 : Ref sig .tc := ⟨.hbm, 60, rfl⟩
abbrev main_v19_3 : Ref sig .tc := ⟨.hbm, 61, rfl⟩
abbrev main_v19_4 : Ref sig .tc := ⟨.hbm, 62, rfl⟩
abbrev main_v19_5 : Ref sig .tc := ⟨.hbm, 63, rfl⟩
abbrev main_v19_6 : Ref sig .tc := ⟨.hbm, 64, rfl⟩
abbrev main_v19_7 : Ref sig .tc := ⟨.hbm, 65, rfl⟩
abbrev main_v19_8 : Ref sig .tc := ⟨.hbm, 66, rfl⟩
abbrev main_v19_9 : Ref sig .tc := ⟨.hbm, 67, rfl⟩
abbrev main_v19_10 : Ref sig .tc := ⟨.hbm, 68, rfl⟩
abbrev main_v19_11 : Ref sig .tc := ⟨.hbm, 69, rfl⟩
abbrev main_v19_12 : Ref sig .tc := ⟨.hbm, 70, rfl⟩
abbrev main_v19_13 : Ref sig .tc := ⟨.hbm, 71, rfl⟩
abbrev main_v19_14 : Ref sig .tc := ⟨.hbm, 72, rfl⟩
abbrev main_while0c_c_16 : Ref sig .tc := ⟨.hbm, 73, rfl⟩
abbrev main_while0c_v23 : Ref sig .tc := ⟨.hbm, 74, rfl⟩
abbrev main_while0b_call1_c : Ref sig .tc := ⟨.hbm, 75, rfl⟩
abbrev main_while0b_call1_c_0 : Ref sig .tc := ⟨.hbm, 76, rfl⟩
abbrev main_while0b_call1_v0 : Ref sig .tc := ⟨.hbm, 77, rfl⟩
abbrev main_while0b_v23 : Ref sig .tc := ⟨.hbm, 78, rfl⟩
abbrev main_while0b_call2_c : Ref sig .tc := ⟨.hbm, 79, rfl⟩
abbrev main_while0b_call2_v0 : Ref sig .tc := ⟨.hbm, 80, rfl⟩
abbrev main_while0b_v24 : Ref sig .tc := ⟨.hbm, 81, rfl⟩
abbrev main_while0b_call3_c : Ref sig .tc := ⟨.hbm, 82, rfl⟩
abbrev main_while0b_call3_c_0 : Ref sig .tc := ⟨.hbm, 83, rfl⟩
abbrev main_while0b_call3_v0 : Ref sig .tc := ⟨.hbm, 84, rfl⟩
abbrev main_while0b_v25 : Ref sig .tc := ⟨.hbm, 85, rfl⟩
abbrev main_while0b_call4_c : Ref sig .tc := ⟨.hbm, 86, rfl⟩
abbrev main_while0b_call4_v0 : Ref sig .tc := ⟨.hbm, 87, rfl⟩
abbrev main_while0b_v26 : Ref sig .tc := ⟨.hbm, 88, rfl⟩
abbrev main_while0b_v27 : Ref sig .tc := ⟨.hbm, 89, rfl⟩
abbrev main_while0b_v28 : Ref sig .tc := ⟨.hbm, 90, rfl⟩
abbrev main_while0b_v29 : Ref sig .tc := ⟨.hbm, 91, rfl⟩
abbrev main_while0b_v30 : Ref sig .tc := ⟨.hbm, 92, rfl⟩
abbrev main_while0b_v31 : Ref sig .tc := ⟨.hbm, 93, rfl⟩
abbrev main_while0b_v32 : Ref sig .tc := ⟨.hbm, 94, rfl⟩
abbrev main_while0b_v33 : Ref sig .tc := ⟨.hbm, 95, rfl⟩
abbrev main_while0b_v34 : Ref sig .tc := ⟨.hbm, 96, rfl⟩
abbrev main_while0b_v35 : Ref sig .tc := ⟨.hbm, 97, rfl⟩
abbrev main_while0b_v36 : Ref sig .tc := ⟨.hbm, 98, rfl⟩
abbrev main_while0b_v37 : Ref sig .tc := ⟨.hbm, 99, rfl⟩
abbrev main_while0b_v38 : Ref sig .tc := ⟨.hbm, 100, rfl⟩
abbrev main_while0b_v39 : Ref sig .tc := ⟨.hbm, 101, rfl⟩
abbrev main_while0b_v40 : Ref sig .tc := ⟨.hbm, 102, rfl⟩
abbrev main_while0b_v41 : Ref sig .tc := ⟨.hbm, 103, rfl⟩
abbrev main_while0b_v42 : Ref sig .tc := ⟨.hbm, 104, rfl⟩
abbrev main_while0b_v43 : Ref sig .tc := ⟨.hbm, 105, rfl⟩
abbrev main_while0b_v44 : Ref sig .tc := ⟨.hbm, 106, rfl⟩
abbrev main_while0b_v45 : Ref sig .tc := ⟨.hbm, 107, rfl⟩
abbrev main_while0b_cst_16 : Ref sig .tc := ⟨.hbm, 108, rfl⟩
abbrev main_while0b_v46 : Ref sig .tc := ⟨.hbm, 109, rfl⟩
abbrev main_while0b_v47 : Ref sig .tc := ⟨.hbm, 110, rfl⟩
abbrev main_while0b_cst_17 : Ref sig .tc := ⟨.hbm, 111, rfl⟩
abbrev main_while0b_v48 : Ref sig .tc := ⟨.hbm, 112, rfl⟩
abbrev main_while0b_v49 : Ref sig .tc := ⟨.hbm, 113, rfl⟩
abbrev main_while0b_v50 : Ref sig .tc := ⟨.hbm, 114, rfl⟩
abbrev main_while0b_v51 : Ref sig .tc := ⟨.hbm, 115, rfl⟩
abbrev main_while0b_v52 : Ref sig .tc := ⟨.hbm, 116, rfl⟩
abbrev main_while0b_cst_18 : Ref sig .tc := ⟨.hbm, 117, rfl⟩
abbrev main_while0b_v53 : Ref sig .tc := ⟨.hbm, 118, rfl⟩
abbrev main_while0b_v54 : Ref sig .tc := ⟨.hbm, 119, rfl⟩
abbrev main_while0b_cst_19 : Ref sig .tc := ⟨.hbm, 120, rfl⟩
abbrev main_while0b_v55 : Ref sig .tc := ⟨.hbm, 121, rfl⟩
abbrev main_while0b_v56 : Ref sig .tc := ⟨.hbm, 122, rfl⟩
abbrev main_while0b_v57 : Ref sig .tc := ⟨.hbm, 123, rfl⟩
abbrev main_while0b_v58 : Ref sig .tc := ⟨.hbm, 124, rfl⟩
abbrev main_while0b_v59 : Ref sig .tc := ⟨.hbm, 125, rfl⟩
abbrev main_while0b_cst_20 : Ref sig .tc := ⟨.hbm, 126, rfl⟩
abbrev main_while0b_v60 : Ref sig .tc := ⟨.hbm, 127, rfl⟩
abbrev main_while0b_v61 : Ref sig .tc := ⟨.hbm, 128, rfl⟩
abbrev main_while0b_v62 : Ref sig .tc := ⟨.hbm, 129, rfl⟩
abbrev main_while0b_v63 : Ref sig .tc := ⟨.hbm, 130, rfl⟩
abbrev main_while0b_v64 : Ref sig .tc := ⟨.hbm, 131, rfl⟩
abbrev main_while0b_v65 : Ref sig .tc := ⟨.hbm, 132, rfl⟩
abbrev main_while0b_v66 : Ref sig .tc := ⟨.hbm, 133, rfl⟩
abbrev main_while0b_v67 : Ref sig .tc := ⟨.hbm, 134, rfl⟩
abbrev main_while0b_v68 : Ref sig .tc := ⟨.hbm, 135, rfl⟩
abbrev main_while0b_v69 : Ref sig .tc := ⟨.hbm, 136, rfl⟩
abbrev main_while0b_v70 : Ref sig .tc := ⟨.hbm, 137, rfl⟩
abbrev main_while0b_v71 : Ref sig .tc := ⟨.hbm, 138, rfl⟩
abbrev main_while0b_v72 : Ref sig .tc := ⟨.hbm, 139, rfl⟩
abbrev main_while0b_v73 : Ref sig .tc := ⟨.hbm, 140, rfl⟩
abbrev main_while0b_v74 : Ref sig .tc := ⟨.hbm, 141, rfl⟩
abbrev main_while0b_v75 : Ref sig .tc := ⟨.hbm, 142, rfl⟩
abbrev main_while0b_v76 : Ref sig .tc := ⟨.hbm, 143, rfl⟩
abbrev main_while0b_v77 : Ref sig .tc := ⟨.hbm, 144, rfl⟩
abbrev main_while0b_v78 : Ref sig .tc := ⟨.hbm, 145, rfl⟩
abbrev main_while0b_v79 : Ref sig .tc := ⟨.hbm, 146, rfl⟩
abbrev main_while0b_v80 : Ref sig .tc := ⟨.hbm, 147, rfl⟩
abbrev main_while0b_v81 : Ref sig .tc := ⟨.hbm, 148, rfl⟩
abbrev main_while0b_v82 : Ref sig .tc := ⟨.hbm, 149, rfl⟩
abbrev main_while0b_v83 : Ref sig .tc := ⟨.hbm, 150, rfl⟩
abbrev main_while0b_cst_21 : Ref sig .tc := ⟨.hbm, 151, rfl⟩
abbrev main_while0b_v84 : Ref sig .tc := ⟨.hbm, 152, rfl⟩
abbrev main_while0b_v85 : Ref sig .tc := ⟨.hbm, 153, rfl⟩
abbrev main_while0b_cst_22 : Ref sig .tc := ⟨.hbm, 154, rfl⟩
abbrev main_while0b_v86 : Ref sig .tc := ⟨.hbm, 155, rfl⟩
abbrev main_while0b_v87 : Ref sig .tc := ⟨.hbm, 156, rfl⟩
abbrev main_while0b_v88 : Ref sig .tc := ⟨.hbm, 157, rfl⟩
abbrev main_while0b_v89 : Ref sig .tc := ⟨.hbm, 158, rfl⟩
abbrev main_while0b_v90 : Ref sig .tc := ⟨.hbm, 159, rfl⟩
abbrev main_while0b_cst_23 : Ref sig .tc := ⟨.hbm, 160, rfl⟩
abbrev main_while0b_v91 : Ref sig .tc := ⟨.hbm, 161, rfl⟩
abbrev main_while0b_v92 : Ref sig .tc := ⟨.hbm, 162, rfl⟩
abbrev main_while0b_cst_24 : Ref sig .tc := ⟨.hbm, 163, rfl⟩
abbrev main_while0b_v93 : Ref sig .tc := ⟨.hbm, 164, rfl⟩
abbrev main_while0b_v94 : Ref sig .tc := ⟨.hbm, 165, rfl⟩
abbrev main_while0b_v95 : Ref sig .tc := ⟨.hbm, 166, rfl⟩
abbrev main_while0b_v96 : Ref sig .tc := ⟨.hbm, 167, rfl⟩
abbrev main_while0b_v97 : Ref sig .tc := ⟨.hbm, 168, rfl⟩
abbrev main_while0b_cst_25 : Ref sig .tc := ⟨.hbm, 169, rfl⟩
abbrev main_while0b_v98 : Ref sig .tc := ⟨.hbm, 170, rfl⟩
abbrev main_while0b_v99 : Ref sig .tc := ⟨.hbm, 171, rfl⟩
abbrev main_while0b_v100 : Ref sig .tc := ⟨.hbm, 172, rfl⟩
abbrev main_while0b_v101 : Ref sig .tc := ⟨.hbm, 173, rfl⟩
abbrev main_while0b_v102 : Ref sig .tc := ⟨.hbm, 174, rfl⟩
abbrev main_while0b_v103 : Ref sig .tc := ⟨.hbm, 175, rfl⟩
abbrev main_while0b_call5_v0 : Ref sig .tc := ⟨.hbm, 176, rfl⟩
abbrev main_while0b_v104 : Ref sig .tc := ⟨.hbm, 177, rfl⟩
abbrev main_while0b_v105 : Ref sig .tc := ⟨.hbm, 178, rfl⟩
abbrev main_while0b_call6_v0 : Ref sig .tc := ⟨.hbm, 179, rfl⟩
abbrev main_while0b_v106 : Ref sig .tc := ⟨.hbm, 180, rfl⟩
abbrev main_while0b_c_26 : Ref sig .tc := ⟨.hbm, 181, rfl⟩
abbrev main_while0b_v107 : Ref sig .tc := ⟨.hbm, 182, rfl⟩
abbrev main_v20 : Ref sig .tc := ⟨.hbm, 183, rfl⟩
abbrev main_v21 : Ref sig .tc := ⟨.hbm, 184, rfl⟩
abbrev main_v22 : Ref sig .tc := ⟨.hbm, 185, rfl⟩

abbrev nD : Nat := 1
abbrev τ : Topo := Topo.v7x

variable {F : FTy → Type} [FloatOps F]

abbrev main_while0_count : Scf.Loop 32 := ⟨0#32, 16#32, 1#32⟩
-- ==== Proof.KerBody.lean ====
/- What the kernel's body leaves in its output block, as two recurrences of one cell: the body's 16 unrolled steps of the
   forward and of the backward recurrence are `fwd 16` and `bwd 16`, by definitional unfolding. Both launches print the
   same body over blocks of 800 rows, so both blocks are the one function `block` of their ten input blocks. -/
module

public import proofs.«01_k».proof.Proof.Gen.KernelIdeal.Frame
public import Idealize.ShloMosaic.Lib.Pipeline.ValueKit

@[expose] public section

set_option maxRecDepth 65536

noncomputable section

namespace Cert.KernelIdeal.Body

open Idealize.ShloMosaic Idealize.ShloMosaic.TcCoe Idealize.SL.Sem
open Cert.KernelIdeal Cert.KernelIdeal.Gen

variable {F : FTy → Type} [FloatOps F]

/-- Every character column of a block of words is a slice of it. -/
theorem tokSlice (k : ℕ) : S800x16.Slices ![0, k % 16] S800x1 :=
  (by decide : ∀ k : Fin 16, S800x16.Slices ![0, k.val] S800x1) ⟨k % 16, Nat.mod_lt _ (by decide)⟩

/-- The one-hot rows of character `k` of each word. -/
def oneHot (tok : IVec S800x16 32) (k : ℕ) : FVec F S800x96 .bf16 :=
  truncf .bf16 (sitofp .f32 (extui 32 (cmpi .eq (broadcastTo S800x96
    (extractStridedSlice S800x1 ![0, k % 16] tok (tokSlice k)) broadcasts_S800x1_S800x96)
    (iota .tc S800x96 32 [1] iota_S800x96_d1_w32)) natLt_1_32)) bitsLt_bf16_f32

/-- The words longer than `k`, over the padded hidden units. -/
def mask (len : IVec S800x1 32) (k : ℕ) : IVec S800x128 1 :=
  broadcastTo S800x128 (shapeCast S800x1 (cmpi .sgt len (broadcast S800x1 (BitVec.ofNat 32 k))) shapeCasts_S800x1_S800x1)
    broadcasts_S800x1_S800x128

/-- The forward state after `s` steps. -/
def fwd (x0 : Vec F S800x16 .i32) (tab : FVec F S96x384 .bf16) (wh : FVec F S128x384 .bf16) (nb : FVec F S1x128 .f32) :
    ℕ → FVec F S800x128 .f32
  | 0 => k0_pay43
  | s + 1 => k0_pay45 tab wh nb (mask (k0_pay3 (F := F) x0) s) (oneHot (k0_pay2 (F := F) x0) s) (fwd x0 tab wh nb s)

/-- The backward state after `s` steps: the characters from the last to the first. -/
def bwd (x0 : Vec F S800x16 .i32) (tab : FVec F S96x384 .bf16) (wh : FVec F S128x384 .bf16) (nb : FVec F S1x128 .f32) :
    ℕ → FVec F S800x128 .f32
  | 0 => k0_pay43
  | s + 1 => k0_pay45 tab wh nb (mask (k0_pay3 (F := F) x0) (15 - s)) (oneHot (k0_pay2 (F := F) x0) (15 - s)) (bwd x0 tab wh nb s)

/-- The output block of the ten input blocks. -/
def block (x0 : Vec F S800x16 .i32) (x1 : Vec F S96x64 .f32) (x2 : Vec F S64x384 .f32) (x3 : Vec F S128x384 .f32)
    (x4 : Vec F S1x384 .f32) (x5 : Vec F S1x128 .f32) (x6 : Vec F S64x384 .f32) (x7 : Vec F S128x384 .f32)
    (x8 : Vec F S1x384 .f32) (x9 : Vec F S1x128 .f32) : Vec F S800x200 .f32 :=
  concatenate S800x200 1
    [⟨S800x100, extractStridedSlice S800x100 ![0, 0]
      (fwd x0 (k0_pay4 x1 x2 x4) (k0_pay6 x3) (k0_pay8 x5) 16) slices_S800x128_o0_0_S800x100⟩,
     ⟨S800x100, extractStridedSlice S800x100 ![0, 0]
      (bwd x0 (k0_pay5 x1 x6 x8) (k0_pay7 x7) (k0_pay9 x9) 16) slices_S800x128_o0_0_S800x100⟩]
    concatenates_S800x100_S800x100_S800x200_d1

variable (V : (c : Dev nD) → (b : Ref sig .tc) → Buf (Elt F) ((c : Thread nD τ).loc b))

set_option maxHeartbeats 4000000 in
/-- The block the first launch writes at point `t`. -/
theorem outsAt0_eq (c : Dev nD) (t : Fin cfg0.N) :
    outsAt0 V c t = block (iblk0 V c 0 t) (iblk0 V c 1 t) (iblk0 V c 2 t) (iblk0 V c 3 t) (iblk0 V c 4 t)
      (iblk0 V c 5 t) (iblk0 V c 6 t) (iblk0 V c 7 t) (iblk0 V c 8 t) (iblk0 V c 9 t) := by
  unfold outsAt0
  frame_out
  sl_kernel_rfl

set_option maxHeartbeats 4000000 in
/-- The block the second launch writes. -/
theorem outsAt1_eq (c : Dev nD) (t : Fin cfg1.N) :
    outsAt1 V c t = block (iblk1 V c 0 t) (iblk1 V c 1 t) (iblk1 V c 2 t) (iblk1 V c 3 t) (iblk1 V c 4 t)
      (iblk1 V c 5 t) (iblk1 V c 6 t) (iblk1 V c 7 t) (iblk1 V c 8 t) (iblk1 V c 9 t) := by
  unfold outsAt1
  frame_out
  sl_kernel_rfl

end Cert.KernelIdeal.Body

end
-- ==== Proof.Gru.lean ====
/- The arithmetic of one GRU cell over the extended reals. The reference writes a gate as `1 / (1 + exp (-u))`; the
   kernel writes it as a hyperbolic tangent of `u / 2` (the halving is folded into the packed weights) and never forms
   the gate itself. `cell_eq` is the law that makes the two forms equal; `step_eq` carries it to a whole row of hidden
   units with the packed, padded weights; `runs_eq` carries it through a recurrence of any length. -/
module

public import Idealize.ShloMosaic.PureOps.Ideal.Laws

@[expose] public section

noncomputable section

namespace Cert.Gru

open Idealize.ShloMosaic
open scoped BigOperators

/-- One half, the weight the kernel's packing puts on the gates. -/
def half : EReal := ((1 / 2 : ℝ) : EReal)

theorem half_nonneg : (0 : EReal) ≤ half := by
  unfold half; exact_mod_cast (by norm_num : (0 : ℝ) ≤ 1 / 2)

theorem half_ne_top : half ≠ ⊤ := EReal.coe_ne_top _

theorem half_mul_add (a b : EReal) : half * (a + b) = half * a + half * b :=
  EReal.left_distrib_of_nonneg_of_ne_top half_nonneg half_ne_top a b

/-- Halving distributes over a finite sum, whatever infinities it holds. -/
theorem half_mul_sum {ι : Type} (s : Finset ι) (f : ι → EReal) : half * ∑ i ∈ s, f i = ∑ i ∈ s, half * f i := by
  classical
  induction s using Finset.induction_on with
  | empty => simp
  | insert a s ha ih => rw [Finset.sum_insert ha, Finset.sum_insert ha, half_mul_add, ih]

/-- A sum of products whose second factors are halved is the half of the sum of products. -/
theorem sum_mul_half {ι : Type} (s : Finset ι) (f g : ι → EReal) :
    ∑ i ∈ s, f i * (g i * half) = half * ∑ i ∈ s, f i * g i := by
  rw [half_mul_sum]
  exact Finset.sum_congr rfl fun i _ => by rw [mul_comm half, mul_assoc]

/-- The logistic gate as the reference writes it. -/
def gate (u : EReal) : EReal := Ideal.div 1 (1 + Ideal.exp (-u))

theorem tanh_half (x : ℝ) : (1 + Real.exp (-x))⁻¹ = 1 / 2 * (1 + Real.tanh (1 / 2 * x)) := by
  have hx : Real.exp (-x) = Real.exp (-(1 / 2 * x)) / Real.exp (1 / 2 * x) := by
    rw [← Real.exp_sub]; congr 1; ring
  have hp := Real.exp_pos (1 / 2 * x)
  have hq := Real.exp_pos (-(1 / 2 * x))
  rw [Real.tanh_eq_sinh_div_cosh, Real.sinh_eq, Real.cosh_eq, hx]
  field_simp
  ring

/-- Every hyperbolic tangent is a real number. -/
theorem tanh_real (u : EReal) : ∃ t : ℝ, Ideal.tanh u = (t : EReal) := by
  induction u with
  | bot => exact ⟨-1, by simp⟩
  | coe x => exact ⟨_, Ideal.tanh_coe x⟩
  | top => exact ⟨1, by simp⟩

/-- The gate is half of one plus the hyperbolic tangent of half its argument, at the infinities too. -/
theorem gate_eq (u : EReal) : gate u = half * (1 + Ideal.tanh (half * u)) := by
  have hg : gate u = Ideal.logistic u := rfl
  rw [hg]
  induction u with
  | bot =>
    rw [Ideal.logistic_bot, show half * ⊥ = ⊥ from EReal.coe_mul_bot_of_pos (by norm_num), Ideal.tanh_bot]
    rw [show (1 : EReal) + -1 = 0 by
      rw [← EReal.coe_one, ← EReal.coe_neg, ← EReal.coe_add]; simp, mul_zero]
  | coe x =>
    rw [Ideal.logistic_coe, tanh_half]
    unfold half
    rw [← EReal.coe_mul, Ideal.tanh_coe, ← EReal.coe_one, ← EReal.coe_add, ← EReal.coe_mul]
  | top =>
    rw [Ideal.logistic_top, show half * ⊤ = ⊤ from EReal.coe_mul_top_of_pos (by norm_num), Ideal.tanh_top]
    unfold half
    rw [← EReal.coe_one, ← EReal.coe_add, ← EReal.coe_mul]; norm_num

/-- The reference's cell at one hidden unit: the three input sums, the three recurrent sums, and the old state. -/
def refCell (xr xz xn hr hz hn h : EReal) : EReal :=
  (1 - gate (xz + hz)) * Ideal.tanh (xn + gate (xr + hr) * hn) + gate (xz + hz) * h

/-- The kernel's cell at one hidden unit: the two tangent arguments, the candidate's input sum and its halved recurrent
sum, and the old state. -/
def kerCell (a b xn g h : EReal) : EReal :=
  half * ((Ideal.tanh ((xn + g) + Ideal.tanh a * g) + h)
    + Ideal.tanh b * (h - Ideal.tanh ((xn + g) + Ideal.tanh a * g)))

/-- The two cells agree where the candidate's recurrent sum and the old state are finite. -/
theorem cell_eq (xr xz xn hr hz : EReal) (hn h : ℝ) :
    kerCell (half * (xr + hr)) (half * (xz + hz)) xn (half * (hn : EReal)) (h : EReal)
      = refCell xr xz xn hr hz (hn : EReal) (h : EReal) := by
  unfold kerCell refCell
  rw [gate_eq (xr + hr), gate_eq (xz + hz)]
  obtain ⟨ta, hta⟩ := tanh_real (half * (xr + hr))
  obtain ⟨tb, htb⟩ := tanh_real (half * (xz + hz))
  rw [hta, htb]
  have hc : (xn + half * (hn : EReal)) + (ta : EReal) * (half * (hn : EReal))
      = xn + half * (1 + (ta : EReal)) * (hn : EReal) := by
    rw [add_assoc]
    congr 1
    unfold half
    rw [← EReal.coe_one]
    norm_cast
    ring_nf
  rw [hc]
  obtain ⟨n, hn'⟩ := tanh_real (xn + half * (1 + (ta : EReal)) * (hn : EReal))
  rw [hn']
  unfold half
  rw [← EReal.coe_one]
  norm_cast
  ring_nf

/-- The reference's cell is a real number where the old state is one. -/
theorem refCell_real (xr xz xn hr hz hn : EReal) (h : ℝ) : ∃ t : ℝ, refCell xr xz xn hr hz hn (h : EReal) = (t : EReal) := by
  unfold refCell
  rw [gate_eq (xz + hz)]
  obtain ⟨tb, htb⟩ := tanh_real (half * (xz + hz))
  obtain ⟨n, hn'⟩ := tanh_real (xn + gate (xr + hr) * hn)
  rw [htb, hn']
  unfold half
  rw [← EReal.coe_one]
  exact ⟨_, by norm_cast⟩

/-- A finite sum of real numbers is the same among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## A row of hidden units -/

/-- Hidden unit `j` of gate `g` among the 300 rows of an unpacked weight. -/
def row (g : Fin 3) (j : Fin 100) : Fin 300 := ⟨g.val * 100 + j.val, by omega⟩

/-- Hidden unit `j` of gate `g` among the 384 columns of a packed weight. -/
def col (g : Fin 3) (j : Fin 128) : Fin 384 := ⟨g.val * 128 + j.val, by omega⟩

/-- A hidden unit among the padded 128. -/
def up (j : Fin 100) : Fin 128 := ⟨j.val, by omega⟩

/-- A dense layer's sum at one output row. -/
def dense {K : ℕ} (x : Fin K → EReal) (W : Fin 300 → Fin K → EReal) (b : Fin 300 → EReal) (i : Fin 300) : EReal :=
  (∑ k, x k * W i k) + b i

/-- The reference's new state from an input row and an old state. -/
def refStep (Wi : Fin 300 → Fin 64 → EReal) (Wh : Fin 300 → Fin 100 → EReal) (bi bh : Fin 300 → EReal)
    (x : Fin 64 → EReal) (h : Fin 100 → EReal) (j : Fin 100) : EReal :=
  refCell (dense x Wi bi (row 0 j)) (dense x Wi bi (row 1 j)) (dense x Wi bi (row 2 j))
    (dense h Wh bh (row 0 j)) (dense h Wh bh (row 1 j)) (dense h Wh bh (row 2 j)) (h j)

/-- The kernel's new state from a row of the table, and an old padded state. -/
def kerStep (wh : Fin 128 → Fin 384 → EReal) (nb : Fin 128 → EReal)
    (t : Fin 384 → EReal) (h : Fin 128 → EReal) (j : Fin 128) : EReal :=
  kerCell (t (col 0 j) + ∑ k, h k * wh k (col 0 j)) (t (col 1 j) + ∑ k, h k * wh k (col 1 j)) (t (col 2 j))
    ((∑ k, h k * wh k (col 2 j)) + nb j) (h j)

/-- A gate's weight in the packing of the input weights and biases. -/
def inScale (g : Fin 3) : EReal := if g = 2 then 1 else half

/-- A gate's weight in the packing of the recurrent bias into the table. -/
def biasScale (g : Fin 3) : EReal := if g = 2 then 0 else half

/-- What the packing puts at the columns of real hidden units (the padded columns do not matter). -/
structure Packed (Wi : Fin 300 → Fin 64 → EReal) (Wh : Fin 300 → Fin 100 → EReal) (bi bh : Fin 300 → EReal)
    (wit : Fin 64 → Fin 384 → EReal) (wh : Fin 128 → Fin 384 → EReal) (tb : Fin 384 → EReal) (nb : Fin 128 → EReal) :
    Prop where
  witAt : ∀ k g j, wit k (col g (up j)) = Wi (row g j) k * inScale g
  whAt : ∀ (k : Fin 100) g j, wh (up k) (col g (up j)) = Wh (row g j) k * half
  whPad : ∀ (k : Fin 128) g j, 100 ≤ k.val → wh k (col g (up j)) = 0
  tbAt : ∀ g j, tb (col g (up j)) = bi (row g j) * inScale g + bh (row g j) * biasScale g
  nbAt : ∀ j, nb (up j) = bh (row 2 j) * half

/-- A row of the kernel's table: the packed input sum of one embedding row. -/
def tabRow (wit : Fin 64 → Fin 384 → EReal) (tb : Fin 384 → EReal) (x : Fin 64 → EReal) (c : Fin 384) : EReal :=
  (∑ k, x k * wit k c) + tb c

/-- A sum over the padded hidden units whose padded terms vanish is the sum over the real ones. -/
theorem sum_up (f : Fin 128 → EReal) (h : ∀ k : Fin 128, 100 ≤ k.val → f k = 0) : ∑ k, f k = ∑ k : Fin 100, f (up k) := by
  rw [show (∑ k : Fin 128, f k) = ∑ k : Fin (100 + 28), f k from rfl, Fin.sum_univ_add]
  rw [Finset.sum_eq_zero (s := (Finset.univ : Finset (Fin 28))) (fun k _ => h _ (by simp)), add_zero]
  rfl

section
variable {Wi : Fin 300 → Fin 64 → EReal} {Wh : Fin 300 → Fin 100 → EReal} {bi bh : Fin 300 → EReal}
  {wit : Fin 64 → Fin 384 → EReal} {wh : Fin 128 → Fin 384 → EReal} {tb : Fin 384 → EReal} {nb : Fin 128 → EReal}

/-- The packed recurrent sum is half of the plain one. -/
theorem Packed.recur (p : Packed Wi Wh bi bh wit wh tb nb) (h : Fin 100 → EReal) (kh : Fin 128 → EReal)
    (hk : ∀ k, kh (up k) = h k) (g : Fin 3) (j : Fin 100) :
    ∑ k, kh k * wh k (col g (up j)) = half * ∑ k, h k * Wh (row g j) k := by
  rw [sum_up _ fun k hk => by rw [p.whPad k g j hk, mul_zero], ← sum_mul_half]
  exact Finset.sum_congr rfl fun k _ => by rw [hk, p.whAt]

/-- The argument of a gate's tangent is half of the gate's own argument. -/
theorem Packed.gateArg (p : Packed Wi Wh bi bh wit wh tb nb) (x : Fin 64 → EReal) (h : Fin 100 → EReal)
    (kh : Fin 128 → EReal) (hk : ∀ k, kh (up k) = h k) (g : Fin 3) (hg : g ≠ 2) (j : Fin 100) :
    tabRow wit tb x (col g (up j)) + ∑ k, kh k * wh k (col g (up j))
      = half * (dense x Wi bi (row g j) + dense h Wh bh (row g j)) := by
  have hi : inScale g = half := if_neg hg
  have hb : biasScale g = half := if_neg hg
  rw [p.recur h kh hk]
  unfold tabRow dense
  rw [p.tbAt, hi, hb]
  simp only [p.witAt, hi]
  rw [sum_mul_half, half_mul_add, half_mul_add, half_mul_add, mul_comm (bi _), mul_comm (bh _)]
  abel

/-- The candidate's input sum is the plain one. -/
theorem Packed.candIn (p : Packed Wi Wh bi bh wit wh tb nb) (x : Fin 64 → EReal) (j : Fin 100) :
    tabRow wit tb x (col 2 (up j)) = dense x Wi bi (row 2 j) := by
  have hi : inScale 2 = 1 := if_pos rfl
  have hb : biasScale 2 = 0 := if_pos rfl
  unfold tabRow dense
  rw [p.tbAt, hi, hb]
  simp only [p.witAt, hi, mul_one, mul_zero, add_zero]

/-- The candidate's recurrent sum is half of the plain one. -/
theorem Packed.candRec (p : Packed Wi Wh bi bh wit wh tb nb) (h : Fin 100 → EReal) (kh : Fin 128 → EReal)
    (hk : ∀ k, kh (up k) = h k) (j : Fin 100) :
    (∑ k, kh k * wh k (col 2 (up j))) + nb (up j) = half * dense h Wh bh (row 2 j) := by
  rw [p.recur h kh hk, p.nbAt]
  unfold dense
  rw [half_mul_add, mul_comm (bh _)]

/-- The candidate's recurrent weights and bias are finite. -/
structure Finite (Wh : Fin 300 → Fin 100 → EReal) (bh : Fin 300 → EReal) : Prop where
  wh : ∀ j k, ∃ t : ℝ, Wh (row 2 j) k = (t : EReal)
  bh : ∀ j, ∃ t : ℝ, bh (row 2 j) = (t : EReal)

theorem Finite.dense (f : Finite Wh bh) (h : Fin 100 → EReal) (hr : ∀ k, ∃ t : ℝ, h k = (t : EReal)) (j : Fin 100) :
    ∃ t : ℝ, dense h Wh bh (row 2 j) = (t : EReal) := by
  choose w hw using f.wh
  choose b hb using f.bh
  choose r hr using hr
  refine ⟨(∑ k, r k * w j k) + b j, ?_⟩
  unfold Gru.dense
  rw [hb, EReal.coe_add, coe_sum]
  congr 1
  exact Finset.sum_congr rfl fun k _ => by rw [hr, hw, EReal.coe_mul]

/-- The kernel's step with packed weights is the reference's step, at the real hidden units. -/
theorem step_eq (p : Packed Wi Wh bi bh wit wh tb nb) (f : Finite Wh bh) (x : Fin 64 → EReal) (h : Fin 100 → EReal)
    (hr : ∀ k, ∃ t : ℝ, h k = (t : EReal)) (kh : Fin 128 → EReal) (hk : ∀ k, kh (up k) = h k) (j : Fin 100) :
    kerStep wh nb (tabRow wit tb x) kh (up j) = refStep Wi Wh bi bh x h j := by
  unfold kerStep refStep
  rw [p.gateArg x h kh hk 0 (by decide), p.gateArg x h kh hk 1 (by decide), p.candIn, p.candRec h kh hk, hk]
  obtain ⟨a, ha⟩ := f.dense h hr j
  obtain ⟨b, hb⟩ := hr j
  rw [ha, hb, cell_eq]

/-- The reference's state after `k` steps: the masked recurrence from zero. -/
def refRun (Wi : Fin 300 → Fin 64 → EReal) (Wh : Fin 300 → Fin 100 → EReal) (bi bh : Fin 300 → EReal)
    (x : ℕ → Fin 64 → EReal) (m : ℕ → Prop) [DecidablePred m] : ℕ → Fin 100 → EReal
  | 0 => fun _ => 0
  | k + 1 => fun j => if m k then refStep Wi Wh bi bh (x k) (refRun Wi Wh bi bh x m k) j else refRun Wi Wh bi bh x m k j

/-- The kernel's padded state after `k` steps. -/
def kerRun (wh : Fin 128 → Fin 384 → EReal) (nb : Fin 128 → EReal)
    (t : ℕ → Fin 384 → EReal) (m : ℕ → Prop) [DecidablePred m] : ℕ → Fin 128 → EReal
  | 0 => fun _ => 0
  | k + 1 => fun j => if m k then kerStep wh nb (t k) (kerRun wh nb t m k) j else kerRun wh nb t m k j

theorem refRun_real (x : ℕ → Fin 64 → EReal) (m : ℕ → Prop) [DecidablePred m] (k : ℕ) (j : Fin 100) :
    ∃ t : ℝ, refRun Wi Wh bi bh x m k j = (t : EReal) := by
  induction k generalizing j with
  | zero => exact ⟨0, by simp [refRun]⟩
  | succ k ih =>
    unfold refRun
    split
    · obtain ⟨a, ha⟩ := ih j
      unfold refStep
      rw [ha]
      exact refCell_real ..
    · exact ih j

/-- The kernel's recurrence is the reference's at the real hidden units, after any number of steps. -/
theorem runs_eq (p : Packed Wi Wh bi bh wit wh tb nb) (f : Finite Wh bh) (x : ℕ → Fin 64 → EReal)
    (m : ℕ → Prop) [DecidablePred m] (k : ℕ) (j : Fin 100) :
    kerRun wh nb (fun s => tabRow wit tb (x s)) m k (up j) = refRun Wi Wh bi bh x m k j := by
  induction k generalizing j with
  | zero => rfl
  | succ k ih =>
    unfold kerRun refRun
    rw [step_eq p f (x k) _ (fun i => refRun_real x m k i) _ ih, ih]
end

end Cert.Gru

end
-- ==== Proof.Word.lean ====
/- The value both programs compute for one word of 16 characters: the forward and the backward recurrence over the rows
   of the embedding table that its characters choose, the characters beyond the word's length leaving the state as it is. -/
module

public import proofs.«01_k».proof.Proof.Gru
public import Idealize.ShloMosaic.Lib.Pointwise

@[expose] public section

noncomputable section

namespace Cert.Gru

open Idealize.ShloMosaic

/-- The weights of one direction. -/
structure Weights where
  Wi : Fin 300 → Fin 64 → EReal
  Wh : Fin 300 → Fin 100 → EReal
  bi : Fin 300 → EReal
  bh : Fin 300 → EReal

/-- A word's length: how many of its characters are not 0. -/
def lenOf (w : Fin 16 → BitVec 32) : BitVec 32 :=
  Finset.fold IntOp.addi (0#32) (fun x => BitVec.setWidth 32 (IntOp.cmpi CmpIPredicate.ne (w x) 0#32)) Finset.univ

/-- Position `k` lies within the word. -/
def inWord (w : Fin 16 → BitVec 32) (k : ℕ) : Prop := IntOp.cmpi .sgt (lenOf w) (BitVec.ofNat 32 k) = 1#1

instance (w : Fin 16 → BitVec 32) : DecidablePred (inWord w) := fun k => by unfold inWord; infer_instance

/-- The character at position `k`. -/
def charAt (w : Fin 16 → BitVec 32) (k : ℕ) : BitVec 32 := w ⟨k % 16, Nat.mod_lt _ (by decide)⟩

/-- The embedding row of the character at position `k`. -/
def charRow (tab : Fin 96 → Fin 64 → EReal) (w : Fin 16 → BitVec 32) (k : ℕ) : Fin 64 → EReal :=
  tab ⟨(charAt w k).toNat % 96, Nat.mod_lt _ (by decide)⟩

/-- One word's 200 outputs: the last forward state, then the last backward state. -/
def word (tab : Fin 96 → Fin 64 → EReal) (f b : Weights) (w : Fin 16 → BitVec 32) (j : Fin 200) : EReal :=
  if h : j.val < 100 then refRun f.Wi f.Wh f.bi f.bh (charRow tab w) (inWord w) 16 ⟨j.val, h⟩
  else refRun b.Wi b.Wh b.bi b.bh (fun s => charRow tab w (15 - s)) (fun s => inWord w (15 - s)) 16 ⟨j.val - 100, by omega⟩

end Cert.Gru
-- ==== Proof.KerRow.lean ====
/- The kernel's block read at one word and one hidden unit. A one-hot row times the table is the table's row at the
   character, so one step of the body is `kerStep`, the 16 steps are `kerRun`, and by `runs_eq` the block's row of a word
   is `word`. -/
module

public import proofs.«01_k».proof.Proof.KerBody
public import proofs.«01_k».proof.Proof.Word

@[expose] public section

set_option maxRecDepth 65536
set_option maxHeartbeats 1000000

noncomputable section

namespace Cert.KernelIdeal.Body

open Idealize.ShloMosaic Idealize.ShloMosaic.TcCoe Idealize.SL.Sem
open Cert.KernelIdeal Cert.KernelIdeal.Gen
open Cert.Gru

theorem half_bits : Ideal.ofBits .f32 1056964608#32 = half := by
  unfold half
  simp [Ideal.ofBits, Ideal.ieee, -EReal.coe_mul]; norm_num

theorem cell_at (tab : FVec Ideal S96x384 .bf16) (wh : FVec Ideal S128x384 .bf16) (nb : FVec Ideal S1x128 .f32)
    (m : IVec S800x128 1) (oh : FVec Ideal S800x96 .bf16) (h : FVec Ideal S800x128 .f32) (i : Fin 800) (j : Fin 128) :
    k0_pay45 tab wh nb m oh h (ix2 i j)
      = if m (ix2 i j) = 1#1 then kerStep (fun k c => wh (ix2 k c)) (fun j => nb (ix2 0 j))
          (fun c => ∑ v, oh (ix2 i v) * tab (ix2 v c)) (fun k => h (ix2 i k)) j
        else h (ix2 i j) := by
  unfold kerStep kerCell col
  unfold_payloads
  pointwise []
  rw [half_bits]
  rfl

/-- A 0/1 word as a float is 1 exactly where its condition holds. -/
theorem indicator (a b : BitVec 32) :
    FloatOps.sitofp (F := Ideal) .f32 (BitVec.setWidth 32 (IntOp.cmpi CmpIPredicate.eq a b)) = if a = b then (1 : EReal) else 0 := by
  by_cases h : a = b
  · have e : IntOp.cmpi CmpIPredicate.eq a b = 1#1 := by simp [IntOp.cmpi, h]
    rw [e, if_pos h]
    show (((BitVec.setWidth 32 1#1).toInt : ℝ) : EReal) = 1
    have : (BitVec.setWidth 32 1#1).toInt = 1 := by decide
    rw [this]; simp
  · have e : IntOp.cmpi CmpIPredicate.eq a b = 0#1 := by
      have : (a == b) = false := beq_false_of_ne h
      simp [IntOp.cmpi, this]
    rw [e, if_neg h]
    show (((BitVec.setWidth 32 0#1).toInt : ℝ) : EReal) = 0
    have : (BitVec.setWidth 32 0#1).toInt = 0 := by decide
    rw [this]; simp

theorem oneHot_at (tok : IVec S800x16 32) (k : ℕ) (i : Fin 800) (v : Fin 96) :
    oneHot (F := Ideal) tok k (ix2 i v)
      = if charAt (fun k => tok (ix2 i k)) k = BitVec.ofNat 32 v then (1 : EReal) else 0 := by
  unfold charAt
  pointwise [oneHot]
  exact indicator _ _

/-- A one-hot row picks one term of a sum. -/
theorem oneHot_sum (c : BitVec 32) (hc : c.toNat < 96) (t : Fin 96 → EReal) :
    ∑ v : Fin 96, (if c = BitVec.ofNat 32 v then (1 : EReal) else 0) * t v = t ⟨c.toNat % 96, Nat.mod_lt _ (by decide)⟩ := by
  rw [Finset.sum_eq_single ⟨c.toNat % 96, Nat.mod_lt _ (by decide)⟩]
  · rw [if_pos (by simp [Nat.mod_eq_of_lt hc]), one_mul]
  · intro v _ hv
    rw [if_neg, zero_mul]
    intro h
    apply hv
    apply Fin.ext
    show v.val = c.toNat % 96
    rw [h, BitVec.toNat_ofNat]
    omega
  · intro h; exact absurd (Finset.mem_univ _) h

theorem mask_at (len : IVec S800x1 32) (k : ℕ) (i : Fin 800) (j : Fin 128) :
    mask len k (ix2 i j) = IntOp.cmpi .sgt (len (ix2 i 0)) (BitVec.ofNat 32 k) := by
  pointwise [mask]

theorem len_at (x0 : Vec Ideal S800x16 .i32) (i : Fin 800) :
    k0_pay3 (F := Ideal) x0 (ix2 i 0) = lenOf fun k => x0 (ix2 i k) := by
  unfold lenOf
  unfold_payloads
  pointwise []

theorem tok_at (x0 : Vec Ideal S800x16 .i32) (i : Fin 800) (k : Fin 16) :
    k0_pay2 (F := Ideal) x0 (ix2 i k) = x0 (ix2 i k) := by
  unfold_payloads
  pointwise []

theorem tableF_at (x1 : Vec Ideal S96x64 .f32) (x2 : Vec Ideal S64x384 .f32) (x4 : Vec Ideal S1x384 .f32) (v : Fin 96) (c : Fin 384) :
    k0_pay4 x1 x2 x4 (ix2 v c) = tabRow (fun k c => x2 (ix2 k c)) (fun c => x4 (ix2 0 c)) (fun k => x1 (ix2 v k)) c := by
  unfold tabRow
  unfold_payloads
  pointwise []

theorem whF (x : Vec Ideal S128x384 .f32) (k : Fin 128) (c : Fin 384) : k0_pay6 x (ix2 k c) = x (ix2 k c) := by
  unfold_payloads
  pointwise []

theorem nbF (x : Vec Ideal S1x128 .f32) (j : Fin 128) : k0_pay8 x (ix2 0 j) = x (ix2 0 j) := by
  unfold_payloads
  pointwise []

theorem zero_at (i : Fin 800) (j : Fin 128) : k0_pay43 (F := Ideal) (ix2 i j) = (0 : EReal) := by
  unfold_payloads
  pointwise []

/-- The two directions' inputs are prepared alike. -/
theorem tableB (x1 : Vec Ideal S96x64 .f32) (x2 : Vec Ideal S64x384 .f32) (x4 : Vec Ideal S1x384 .f32) :
    k0_pay5 x1 x2 x4 = k0_pay4 x1 x2 x4 := rfl
theorem whB (x : Vec Ideal S128x384 .f32) : k0_pay7 x = k0_pay6 x := rfl
theorem nbB (x : Vec Ideal S1x128 .f32) : k0_pay9 x = k0_pay8 x := rfl

/-- One step of the body on one word is `kerStep` on the table's row of its character. -/
theorem step_at (x0 : Vec Ideal S800x16 .i32) (x1 : Vec Ideal S96x64 .f32) (x2 : Vec Ideal S64x384 .f32)
    (x3 : Vec Ideal S128x384 .f32) (x4 : Vec Ideal S1x384 .f32) (x5 : Vec Ideal S1x128 .f32)
    (ht : ∀ i k, (x0 (ix2 i k)).toNat < 96) (s : ℕ) (h : FVec Ideal S800x128 .f32) (i : Fin 800) (j : Fin 128) :
    k0_pay45 (k0_pay4 x1 x2 x4) (k0_pay6 x3) (k0_pay8 x5) (mask (k0_pay3 (F := Ideal) x0) s)
        (oneHot (k0_pay2 (F := Ideal) x0) s) h (ix2 i j)
      = if inWord (fun k => x0 (ix2 i k)) s then
          kerStep (fun k c => x3 (ix2 k c)) (fun j => x5 (ix2 0 j))
            (tabRow (fun k c => x2 (ix2 k c)) (fun c => x4 (ix2 0 c)) (charRow (fun v e => x1 (ix2 v e)) (fun k => x0 (ix2 i k)) s))
            (fun k => h (ix2 i k)) j
        else h (ix2 i j) := by
  rw [cell_at, mask_at, len_at]
  refine ite_congr rfl (fun _ => ?_) fun _ => rfl
  have e : (fun c => ∑ v, oneHot (F := Ideal) (k0_pay2 (F := Ideal) x0) s (ix2 i v) * k0_pay4 x1 x2 x4 (ix2 v c))
      = tabRow (fun k c => x2 (ix2 k c)) (fun c => x4 (ix2 0 c)) (charRow (fun v e => x1 (ix2 v e)) (fun k => x0 (ix2 i k)) s) := by
    funext c
    simp only [oneHot_at, tok_at, tableF_at]
    exact oneHot_sum _ (ht _ _) fun x => tabRow (fun k c => x2 (ix2 k c)) (fun c => x4 (ix2 0 c)) (fun k => x1 (ix2 x k)) c
  rw [e]
  simp only [whF, nbF]

theorem fwd_at (x0 : Vec Ideal S800x16 .i32) (x1 : Vec Ideal S96x64 .f32) (x2 : Vec Ideal S64x384 .f32)
    (x3 : Vec Ideal S128x384 .f32) (x4 : Vec Ideal S1x384 .f32) (x5 : Vec Ideal S1x128 .f32)
    (ht : ∀ i k, (x0 (ix2 i k)).toNat < 96) (i : Fin 800) (s : ℕ) (j : Fin 128) :
    fwd x0 (k0_pay4 x1 x2 x4) (k0_pay6 x3) (k0_pay8 x5) s (ix2 i j)
      = kerRun (fun k c => x3 (ix2 k c)) (fun j => x5 (ix2 0 j))
          (fun s => tabRow (fun k c => x2 (ix2 k c)) (fun c => x4 (ix2 0 c))
            (charRow (fun v e => x1 (ix2 v e)) (fun k => x0 (ix2 i k)) s))
          (inWord fun k => x0 (ix2 i k)) s j := by
  induction s generalizing j with
  | zero => exact zero_at i j
  | succ s ih =>
    unfold fwd kerRun
    rw [step_at x0 x1 x2 x3 x4 x5 ht]
    simp only [ih]

theorem bwd_at (x0 : Vec Ideal S800x16 .i32) (x1 : Vec Ideal S96x64 .f32) (x2 : Vec Ideal S64x384 .f32)
    (x3 : Vec Ideal S128x384 .f32) (x4 : Vec Ideal S1x384 .f32) (x5 : Vec Ideal S1x128 .f32)
    (ht : ∀ i k, (x0 (ix2 i k)).toNat < 96) (i : Fin 800) (s : ℕ) (j : Fin 128) :
    bwd x0 (k0_pay4 x1 x2 x4) (k0_pay6 x3) (k0_pay8 x5) s (ix2 i j)
      = kerRun (fun k c => x3 (ix2 k c)) (fun j => x5 (ix2 0 j))
          (fun s => tabRow (fun k c => x2 (ix2 k c)) (fun c => x4 (ix2 0 c))
            (charRow (fun v e => x1 (ix2 v e)) (fun k => x0 (ix2 i k)) (15 - s)))
          (fun s => inWord (fun k => x0 (ix2 i k)) (15 - s)) s j := by
  induction s generalizing j with
  | zero => exact zero_at i j
  | succ s ih =>
    unfold bwd kerRun
    rw [step_at x0 x1 x2 x3 x4 x5 ht]
    simp only [ih]

/-- The block's row of a word is the word's value. -/
theorem block_at (x0 : Vec Ideal S800x16 .i32) (x1 : Vec Ideal S96x64 .f32) (x2 : Vec Ideal S64x384 .f32)
    (x3 : Vec Ideal S128x384 .f32) (x4 : Vec Ideal S1x384 .f32) (x5 : Vec Ideal S1x128 .f32) (x6 : Vec Ideal S64x384 .f32)
    (x7 : Vec Ideal S128x384 .f32) (x8 : Vec Ideal S1x384 .f32) (x9 : Vec Ideal S1x128 .f32) (f b : Weights)
    (pf : Packed f.Wi f.Wh f.bi f.bh (fun k c => x2 (ix2 k c)) (fun k c => x3 (ix2 k c)) (fun c => x4 (ix2 0 c)) fun j => x5 (ix2 0 j))
    (pb : Packed b.Wi b.Wh b.bi b.bh (fun k c => x6 (ix2 k c)) (fun k c => x7 (ix2 k c)) (fun c => x8 (ix2 0 c)) fun j => x9 (ix2 0 j))
    (ff : Finite f.Wh f.bh) (fb : Finite b.Wh b.bh)
    (ht : ∀ i k, (x0 (ix2 i k)).toNat < 96) (i : Fin 800) (j : Fin 200) :
    block x0 x1 x2 x3 x4 x5 x6 x7 x8 x9 (ix2 i j)
      = word (fun v e => x1 (ix2 v e)) f b (fun k => x0 (ix2 i k)) j := by
  unfold word
  pointwise [block]
  refine dite_congr rfl (fun h => ?_) fun h => ?_
  · rw [fwd_at x0 x1 x2 x3 x4 x5 ht]
    exact runs_eq pf ff _ _ 16 ⟨j.val, h⟩
  · rw [tableB, whB, nbB, bwd_at x0 x1 x6 x7 x8 x9 ht]
    exact runs_eq pb fb (fun s => charRow (fun v e => x1 (ix2 v e)) (fun k => x0 (ix2 i k)) (15 - s)) _ 16 ⟨j.val - 100, by omega⟩

end Cert.KernelIdeal.Body
-- ==== Proof.Pack.lean ====
/- The host's packing of the weights, read at the columns of real hidden units: each gate's rows padded from 100 to 128
   units, scaled by 1/2 (the candidate's input weights by 1), the halved recurrent biases of the two sigmoid gates added
   to the input biases. -/
module

public import proofs.«01_k».proof.Proof.KerRow

@[expose] public section

set_option maxRecDepth 65536
set_option maxHeartbeats 2000000

noncomputable section

namespace Cert.KernelIdeal.Pack

open Idealize.ShloMosaic Idealize.ShloMosaic.TcCoe Idealize.SL.Sem
open Cert.KernelIdeal Cert.KernelIdeal.Gen
open Cert.Gru

/-- The padding value: the integer 0 as a float. -/
def zero : FVec Ideal S_ .f32 := sitofp .f32 (constantI S_ 32 0#32)

/-- Input weights, transposed and packed. -/
def packI (s : FVec Ideal S3 .f32) (W : FVec Ideal S300x64 .f32) : FVec Ideal S64x384 .f32 :=
  transpose S64x384 [1, 0] (shapeCast S384x64 (pad S3x128x64 ![0, 0, 0] ![0, 28, 0] ![0, 0, 0]
    (mulf (shapeCast S3x100x64 W shapeCasts_S300x64_S3x100x64)
      (broadcastInDim S3x100x64 ![0, 1, 2] bcast_S3x1x1_S3x100x64_0_1_2 (shapeCast S3x1x1 s shapeCasts_S3_S3x1x1)))
    zero pads_S3x100x64_S3x128x64_000_0280_000 h_S_) shapeCasts_S3x128x64_S384x64) transposes_S384x64_S64x384_1_0

/-- Recurrent weights, transposed and packed. -/
def packH (s : FVec Ideal S3 .f32) (W : FVec Ideal S300x100 .f32) : FVec Ideal S128x384 .f32 :=
  pad S128x384 ![0, 0] ![28, 0] ![0, 0] (transpose S100x384 [1, 0] (shapeCast S384x100 (pad S3x128x100 ![0, 0, 0] ![0, 28, 0] ![0, 0, 0]
    (mulf (shapeCast S3x100x100 W shapeCasts_S300x100_S3x100x100)
      (broadcastInDim S3x100x100 ![0, 1, 2] bcast_S3x1x1_S3x100x100_0_1_2 (shapeCast S3x1x1 s shapeCasts_S3_S3x1x1)))
    zero pads_S3x100x100_S3x128x100_000_0280_000 h_S_) shapeCasts_S3x128x100_S384x100) transposes_S384x100_S100x384_1_0)
    zero pads_S100x384_S128x384_0280_000 h_S_

/-- A packed bias. -/
def packB (s : FVec Ideal S3 .f32) (b : FVec Ideal S300 .f32) : FVec Ideal S1x384 .f32 :=
  shapeCast S1x384 (pad S3x128 ![0, 0] ![0, 28] ![0, 0]
    (mulf (shapeCast S3x100 b shapeCasts_S300_S3x100)
      (broadcastInDim S3x100 ![0, 1] bcast_S3x1_S3x100_0_1 (shapeCast S3x1 s shapeCasts_S3_S3x1)))
    zero pads_S3x100_S3x128_000_0280 h_S_) shapeCasts_S3x128_S1x384

/-- The candidate's part of a packed bias. -/
def packN (s : FVec Ideal S3 .f32) (b : FVec Ideal S300 .f32) : FVec Ideal S1x128 .f32 :=
  extractStridedSlice S1x128 ![0, 256] (packB s b) slices_S1x384_S1x128_0_256

/-- A packed column's gate and unit. -/
theorem col_div (g : Fin 3) (j : Fin 100) : (g.val * 128 + j.val) / 128 = g.val := by omega
theorem col_mod (g : Fin 3) (j : Fin 100) : (g.val * 128 + j.val) % 128 = j.val := by omega

theorem packI_at (s : FVec Ideal S3 .f32) (W : FVec Ideal S300x64 .f32) (k : Fin 64) (g : Fin 3) (j : Fin 100) :
    packI s W (ix2 k (col g (up j))) = W (ix2 (row g j) k) * s (ix1 g) := by
  unfold packI row col up
  pointwise []
  simp only [col_div, col_mod]
  rw [dif_pos j.isLt]

theorem packB_at (s : FVec Ideal S3 .f32) (b : FVec Ideal S300 .f32) (g : Fin 3) (j : Fin 100) :
    packB s b (ix2 0 (col g (up j))) = b (ix1 (row g j)) * s (ix1 g) := by
  unfold packB row col up
  pointwise []
  simp only [col_div, col_mod]
  rw [dif_pos j.isLt]

theorem packH_at (s : FVec Ideal S3 .f32) (W : FVec Ideal S300x100 .f32) (k : Fin 100) (g : Fin 3) (j : Fin 100) :
    packH s W (ix2 (up k) (col g (up j))) = W (ix2 (row g j) k) * s (ix1 g) := by
  unfold packH row col up
  pointwise []
  simp only [col_div, col_mod]
  rw [dif_pos (show g.val * 128 + j.val < 384 by omega), dif_pos j.isLt]

theorem zero_at (y : S_.Idx) : zero y = (0 : EReal) := by
  unfold zero
  show (((0#32 : BitVec 32).toInt : ℝ) : EReal) = 0
  simp

theorem packH_pad (s : FVec Ideal S3 .f32) (W : FVec Ideal S300x100 .f32) (k : Fin 128) (hk : 100 ≤ k.val) (c : Fin 384) :
    packH s W (ix2 k c) = (0 : EReal) := by
  unfold packH
  pointwise []
  rw [dif_neg (by omega), zero_at]

theorem packN_at (s : FVec Ideal S3 .f32) (b : FVec Ideal S300 .f32) (j : Fin 100) :
    packN s b (ix2 0 (up j)) = b (ix1 (row 2 j)) * s (ix1 2) := by
  rw [← packB_at]
  unfold packN col up
  pointwise []

/-! The scales: the host's literal tables. -/

/-- The input weights' and biases' scales: 1/2, 1/2, 1. -/
def sIn : FVec Ideal S3 .f32 := fun i => FloatOps.ofBits (F := Ideal) .f32 (lit0 (S3.rowMajor i))
/-- The table's recurrent biases' scales: 1/2, 1/2, 0. -/
def sRec : FVec Ideal S3 .f32 := fun i => FloatOps.ofBits (F := Ideal) .f32 (lit3 (S3.rowMajor i))
/-- 1/2 for each gate. -/
def sHalf : FVec Ideal S3 .f32 := constant S3 .f32 0x3F000000#32

theorem lit_in : ∀ g : Fin 3, lit0 (S3.rowMajor (ix1 g)) = if g = 2 then 1065353216#32 else 1056964608#32 := by decide +kernel
theorem lit_rec : ∀ g : Fin 3, lit3 (S3.rowMajor (ix1 g)) = if g = 2 then 0#32 else 1056964608#32 := by decide +kernel

theorem sIn_at (g : Fin 3) : sIn (ix1 g) = inScale g := by
  unfold sIn inScale
  rw [lit_in]
  show Ideal.ofBits .f32 _ = _
  split
  · exact Ideal.ofBits_one_f32
  · exact Body.half_bits

theorem sRec_at (g : Fin 3) : sRec (ix1 g) = biasScale g := by
  unfold sRec biasScale
  rw [lit_rec]
  show Ideal.ofBits .f32 _ = _
  split
  · exact Ideal.ofBits_zero_f32
  · exact Body.half_bits

theorem sHalf_at (y : S3.Idx) : sHalf y = half := Body.half_bits

/-- The weights of one direction, of the argument arrays. -/
def weights (Wi : FVec Ideal S300x64 .f32) (Wh : FVec Ideal S300x100 .f32) (bi bh : FVec Ideal S300 .f32) : Weights where
  Wi r k := Wi (ix2 r k)
  Wh r k := Wh (ix2 r k)
  bi r := bi (ix1 r)
  bh r := bh (ix1 r)

/-- The packing of one direction is the packing `Packed` describes. -/
theorem packed (Wi : FVec Ideal S300x64 .f32) (Wh : FVec Ideal S300x100 .f32) (bi bh : FVec Ideal S300 .f32) :
    Packed (weights Wi Wh bi bh).Wi (weights Wi Wh bi bh).Wh (weights Wi Wh bi bh).bi (weights Wi Wh bi bh).bh
      (fun k c => packI sIn Wi (ix2 k c)) (fun k c => packH sHalf Wh (ix2 k c))
      (fun c => addf (packB sIn bi) (packB sRec bh) (ix2 0 c)) (fun j => packN sHalf bh (ix2 0 j)) where
  witAt k g j := by rw [packI_at, sIn_at]; rfl
  whAt k g j := by rw [packH_at, sHalf_at]; rfl
  whPad k g j hk := packH_pad _ _ _ hk _
  tbAt g j := by
    show packB sIn bi _ + packB sRec bh _ = _
    rw [packB_at, packB_at, sIn_at, sRec_at]; rfl
  nbAt j := by rw [packN_at, sHalf_at]; rfl

end Cert.KernelIdeal.Pack
-- ==== Proof.Region.lean ====
/- What the two launches leave in their result arrays: every written block holds its words' values, and the blocks tile
   the array. -/
module

public import proofs.«01_k».proof.Proof.Pack

@[expose] public section

set_option maxRecDepth 65536
set_option maxHeartbeats 4000000

noncomputable section

namespace Cert.KernelIdeal.Region

open Idealize.ShloMosaic Idealize.ShloMosaic.TcCoe Idealize.SL.Sem
open Cert.KernelIdeal Cert.KernelIdeal.Gen
open Cert.Gru

/-- The values of an array of words. -/
def values {R : ℕ} (w : IVec ⟨2, ![R, 16]⟩ 32) (emb : FVec Ideal S96x64 .f32) (f b : Weights) :
    FVec Ideal ⟨2, ![R, 200]⟩ .f32 :=
  fun y => word (fun v e => emb (ix2 v e)) f b (fun k => w (ix2 (y 0) k)) (y 1)

variable (V : (c : Dev nD) → (b : Ref sig .tc) → Buf (Elt Ideal) ((c : Thread nD τ).loc b)) (c : Dev nD)

/-- What a launch reads, of the argument arrays: the embedding table and the packed weights of both directions. -/
structure Ready (emb : FVec Ideal S96x64 .f32) (Wi Wi' : FVec Ideal S300x64 .f32) (Wh Wh' : FVec Ideal S300x100 .f32)
    (bi bh bi' bh' : FVec Ideal S300 .f32) : Prop where
  emb : V c main_arg4 = emb
  witF : V c main_v6 = Pack.packI Pack.sIn Wi
  whtF : V c main_v21 = Pack.packH Pack.sHalf Wh
  tbF : V c main_v42 = addf (Pack.packB Pack.sIn bi) (Pack.packB Pack.sRec bh)
  nbF : V c main_v62 = Pack.packN Pack.sHalf bh
  witB : V c main_v13 = Pack.packI Pack.sIn Wi'
  whtB : V c main_v29 = Pack.packH Pack.sHalf Wh'
  tbB : V c main_v55 = addf (Pack.packB Pack.sIn bi') (Pack.packB Pack.sRec bh')
  nbB : V c main_v69 = Pack.packN Pack.sHalf bh'

variable {V c} {emb : FVec Ideal S96x64 .f32} {Wi Wi' : FVec Ideal S300x64 .f32} {Wh Wh' : FVec Ideal S300x100 .f32}
  {bi bh bi' bh' : FVec Ideal S300 .f32}

/-- The block of such operands, at one word. -/
theorem Ready.block_at (h : Ready V c emb Wi Wi' Wh Wh' bi bh bi' bh')
    (f : Finite (Pack.weights Wi Wh bi bh).Wh (Pack.weights Wi Wh bi bh).bh)
    (f' : Finite (Pack.weights Wi' Wh' bi' bh').Wh (Pack.weights Wi' Wh' bi' bh').bh)
    (x0 : Vec Ideal S800x16 .i32) (ht : ∀ i k, (x0 (ix2 i k)).toNat < 96) (i : Fin 800) (j : Fin 200) :
    Body.block x0 (V c main_arg4) (V c main_v6) (V c main_v21) (V c main_v42) (V c main_v62) (V c main_v13) (V c main_v29)
        (V c main_v55) (V c main_v69) (ix2 i j)
      = word (fun v e => emb (ix2 v e)) (Pack.weights Wi Wh bi bh) (Pack.weights Wi' Wh' bi' bh') (fun k => x0 (ix2 i k)) j := by
  rw [h.emb, h.witF, h.whtF, h.tbF, h.nbF, h.witB, h.whtB, h.tbB, h.nbB]
  exact Body.block_at _ _ _ _ _ _ _ _ _ _ _ _ (Pack.packed Wi Wh bi bh) (Pack.packed Wi' Wh' bi' bh') f f' ht i j

/-! ## The launch over the 6400 words -/

theorem idx0 : ∀ t : Fin cfg0.N, (cfg0.win 0).index t = ![t.val, 0] ∧ (cfg0.win 10).index t = ![t.val, 0]
    ∧ (cfg0.win 1).index t = ![0, 0] ∧ (cfg0.win 2).index t = ![0, 0] ∧ (cfg0.win 3).index t = ![0, 0]
    ∧ (cfg0.win 4).index t = ![0, 0] ∧ (cfg0.win 5).index t = ![0, 0] ∧ (cfg0.win 6).index t = ![0, 0]
    ∧ (cfg0.win 7).index t = ![0, 0] ∧ (cfg0.win 8).index t = ![0, 0] ∧ (cfg0.win 9).index t = ![0, 0] := by decide +kernel

/-- Every operand but the words is staged whole. -/
theorem whole0 (V : (c : Dev nD) → (b : Ref sig .tc) → Buf (Elt Ideal) ((c : Thread nD τ).loc b)) (c : Dev nD) (t : Fin cfg0.N) :
    iblk0 V c 1 t = V c main_arg4 ∧ iblk0 V c 2 t = V c main_v6 ∧ iblk0 V c 3 t = V c main_v21 ∧ iblk0 V c 4 t = V c main_v42
    ∧ iblk0 V c 5 t = V c main_v62 ∧ iblk0 V c 6 t = V c main_v13 ∧ iblk0 V c 7 t = V c main_v29 ∧ iblk0 V c 8 t = V c main_v55
    ∧ iblk0 V c 9 t = V c main_v69 := by
  refine ⟨?_, ?_, ?_, ?_, ?_, ?_, ?_, ?_, ?_⟩ <;> (funext y; blk_ext [iblk0, idx0 t])

/-- The place in the array of row `i` of block `t`. -/
def place (t : Fin cfg0.N) (i : Fin 800) : Fin 6400 := ⟨t.val * 800 + i.val, by have := t.isLt; change t.val < 8 at this; omega⟩

theorem words0 (V : (c : Dev nD) → (b : Ref sig .tc) → Buf (Elt Ideal) ((c : Thread nD τ).loc b)) (c : Dev nD) (t : Fin cfg0.N)
    (i : Fin 800) (k : Fin 16) : iblk0 V c 0 t (ix2 i k) = V c main_v70 (ix2 (place t i) k) := by
  unfold place
  blk_ext [iblk0, idx0 t]

theorem emb0 (t : Fin cfg0.N) (i : Fin 800) (j : Fin 200) : (win0_10.blk t).view.emb (ix2 i j) = ix2 (place t i) j := by
  unfold place
  blk_ext [idx0 t]

theorem region0 (h : Ready V c emb Wi Wi' Wh Wh' bi bh bi' bh')
    (f : Finite (Pack.weights Wi Wh bi bh).Wh (Pack.weights Wi Wh bi bh).bh)
    (f' : Finite (Pack.weights Wi' Wh' bi' bh').Wh (Pack.weights Wi' Wh' bi' bh').bh)
    (w : IVec S6400x16 32) (hw : V c main_v70 = w) (ht : ∀ i k, (w (ix2 i k)).toNat < 96) :
    (dat0 V c).arrAt 10 cfg0.N
      = values (R := 6400) w emb (Pack.weights Wi Wh bi bh) (Pack.weights Wi' Wh' bi' bh') := by
  refine (dat0 V c).arrAt_eq_of_covers 10 _ (by decide +kernel) fun t hf y => ?_
  blk_simp
  rw [after0_10, Body.outsAt0_eq]
  obtain ⟨e1, e2, e3, e4, e5, e6, e7, e8, e9⟩ := whole0 V c t
  rw [e1, e2, e3, e4, e5, e6, e7, e8, e9]
  obtain ⟨i, j, rfl⟩ : ∃ (i : Fin 800) (j : Fin 200), y = ix2 i j := ⟨y 0, y 1, eq_ix2 y⟩
  have e0 : ∀ i k, iblk0 V c 0 t (ix2 i k) = w (ix2 (place t i) k) := fun i k => (words0 V c t i k).trans (congrFun hw _)
  rw [emb0]
  refine (h.block_at f f' (iblk0 V c 0 t) (fun i k => by rw [e0]; exact ht _ _) i j).trans ?_
  show word _ _ _ (fun k => iblk0 V c 0 t (ix2 i k)) j = word _ _ _ (fun k => w (ix2 (place t i) k)) j
  rw [funext (e0 i)]

/-! ## The launch over the 800 words -/

theorem idx1 : ∀ t : Fin cfg1.N, (cfg1.win 0).index t = ![0, 0] ∧ (cfg1.win 10).index t = ![0, 0]
    ∧ (cfg1.win 1).index t = ![0, 0] ∧ (cfg1.win 2).index t = ![0, 0] ∧ (cfg1.win 3).index t = ![0, 0]
    ∧ (cfg1.win 4).index t = ![0, 0] ∧ (cfg1.win 5).index t = ![0, 0] ∧ (cfg1.win 6).index t = ![0, 0]
    ∧ (cfg1.win 7).index t = ![0, 0] ∧ (cfg1.win 8).index t = ![0, 0] ∧ (cfg1.win 9).index t = ![0, 0] := by decide +kernel

/-- Every operand is staged whole. -/
theorem whole1 (V : (c : Dev nD) → (b : Ref sig .tc) → Buf (Elt Ideal) ((c : Thread nD τ).loc b)) (c : Dev nD) (t : Fin cfg1.N) :
    iblk1 V c 0 t = V c main_v72
    ∧ iblk1 V c 1 t = V c main_arg4 ∧ iblk1 V c 2 t = V c main_v6 ∧ iblk1 V c 3 t = V c main_v21 ∧ iblk1 V c 4 t = V c main_v42
    ∧ iblk1 V c 5 t = V c main_v62 ∧ iblk1 V c 6 t = V c main_v13 ∧ iblk1 V c 7 t = V c main_v29 ∧ iblk1 V c 8 t = V c main_v55
    ∧ iblk1 V c 9 t = V c main_v69 := by
  refine ⟨?_, ?_, ?_, ?_, ?_, ?_, ?_, ?_, ?_, ?_⟩ <;> (funext y; blk_ext [iblk1, idx1 t])

theorem emb1 (t : Fin cfg1.N) (i : Fin 800) (j : Fin 200) : (win1_10.blk t).view.emb (ix2 i j) = ix2 i j := by
  blk_ext [idx1 t]

theorem region1 (h : Ready V c emb Wi Wi' Wh Wh' bi bh bi' bh')
    (f : Finite (Pack.weights Wi Wh bi bh).Wh (Pack.weights Wi Wh bi bh).bh)
    (f' : Finite (Pack.weights Wi' Wh' bi' bh').Wh (Pack.weights Wi' Wh' bi' bh').bh)
    (w : IVec S800x16 32) (hw : V c main_v72 = w) (ht : ∀ i k, (w (ix2 i k)).toNat < 96) :
    (dat1 V c).arrAt 10 cfg1.N
      = values (R := 800) w emb (Pack.weights Wi Wh bi bh) (Pack.weights Wi' Wh' bi' bh') := by
  refine (dat1 V c).arrAt_eq_of_covers 10 _ (by decide +kernel) fun t hf y => ?_
  blk_simp
  rw [after1_10, Body.outsAt1_eq]
  obtain ⟨e0, e1, e2, e3, e4, e5, e6, e7, e8, e9⟩ := whole1 V c t
  rw [e0, e1, e2, e3, e4, e5, e6, e7, e8, e9, hw]
  obtain ⟨i, j, rfl⟩ : ∃ (i : Fin 800) (j : Fin 200), y = ix2 i j := ⟨y 0, y 1, eq_ix2 y⟩
  rw [emb1]
  exact h.block_at f f' w ht i j

end Cert.KernelIdeal.Region
-- ==== Proof.Entry.lean ====
/- The arrays the two launches read, as functions of the argument arrays: the words, the embedding table and the packed
   weights of both directions. -/
module

public import proofs.«01_k».proof.Proof.Pack
public import Idealize.ShloMosaic.Lib.StableHlo.ReadAt

@[expose] public section

set_option maxRecDepth 65536
set_option maxHeartbeats 4000000

noncomputable section

namespace Cert.KernelIdeal.Pack

open Idealize.ShloMosaic Idealize.ShloMosaic.TcCoe Idealize.SL.Sem
open Cert.KernelIdeal Cert.KernelIdeal.Gen
open Cert.Gru

variable (m : (ℓ : Loc nD τ sig) → Buf (Elt Ideal) ℓ) (ρ : Dev nD → PrngReg) (c : Dev nD)

theorem at_v6 : W25 m ρ c (Proc.devRef .tc main_v6)
    = packI sIn (m ((c : Thread nD τ).loc main_arg5)) := by
  unfold W25 W24 W23 W22 W21 W20 W19 W18 W17 W16 W15 W14 W13 W12 W11 W10 W9 W8 W7 W6 W5 W4 W3 W2 W1
  after_reads_simp
  rfl

theorem at_v13 : W25 m ρ c (Proc.devRef .tc main_v13)
    = packI sIn (m ((c : Thread nD τ).loc main_arg9)) := by
  unfold W25 W24 W23 W22 W21 W20 W19 W18 W17 W16 W15 W14 W13 W12 W11 W10 W9 W8 W7 W6 W5 W4 W3 W2 W1
  after_reads_simp
  rfl

theorem at_v21 : W25 m ρ c (Proc.devRef .tc main_v21)
    = packH sHalf (m ((c : Thread nD τ).loc main_arg6)) := by
  unfold W25 W24 W23 W22 W21 W20 W19 W18 W17 W16 W15 W14 W13 W12 W11 W10 W9 W8 W7 W6 W5 W4 W3 W2 W1
  after_reads_simp
  rfl

theorem at_v29 : W25 m ρ c (Proc.devRef .tc main_v29)
    = packH sHalf (m ((c : Thread nD τ).loc main_arg10)) := by
  unfold W25 W24 W23 W22 W21 W20 W19 W18 W17 W16 W15 W14 W13 W12 W11 W10 W9 W8 W7 W6 W5 W4 W3 W2 W1
  after_reads_simp
  rfl

theorem at_v42 : W25 m ρ c (Proc.devRef .tc main_v42)
    = addf (packB sIn (m ((c : Thread nD τ).loc main_arg7))) (packB sRec (m ((c : Thread nD τ).loc main_arg8))) := by
  unfold W25 W24 W23 W22 W21 W20 W19 W18 W17 W16 W15 W14 W13 W12 W11 W10 W9 W8 W7 W6 W5 W4 W3 W2 W1
  after_reads_simp
  rfl

theorem at_v55 : W25 m ρ c (Proc.devRef .tc main_v55)
    = addf (packB sIn (m ((c : Thread nD τ).loc main_arg11))) (packB sRec (m ((c : Thread nD τ).loc main_arg12))) := by
  unfold W25 W24 W23 W22 W21 W20 W19 W18 W17 W16 W15 W14 W13 W12 W11 W10 W9 W8 W7 W6 W5 W4 W3 W2 W1
  after_reads_simp
  rfl

theorem at_v62 : W25 m ρ c (Proc.devRef .tc main_v62)
    = packN sHalf (m ((c : Thread nD τ).loc main_arg8)) := by
  unfold W25 W24 W23 W22 W21 W20 W19 W18 W17 W16 W15 W14 W13 W12 W11 W10 W9 W8 W7 W6 W5 W4 W3 W2 W1
  after_reads_simp
  rfl

theorem at_v69 : W25 m ρ c (Proc.devRef .tc main_v69)
    = packN sHalf (m ((c : Thread nD τ).loc main_arg12)) := by
  unfold W25 W24 W23 W22 W21 W20 W19 W18 W17 W16 W15 W14 W13 W12 W11 W10 W9 W8 W7 W6 W5 W4 W3 W2 W1
  after_reads_simp
  rfl

theorem at_v70 : W25 m ρ c (Proc.devRef .tc main_v70)
    = shapeCast S6400x16 (m ((c : Thread nD τ).loc main_arg2)) shapeCasts_S16x400x16_S6400x16 := by
  unfold W25 W24 W23 W22 W21 W20 W19 W18 W17 W16 W15 W14 W13 W12 W11 W10 W9 W8 W7 W6 W5 W4 W3 W2 W1
  after_reads_simp
  rfl

end Cert.KernelIdeal.Pack
-- ==== Proof.KerRun.lean ====
/- The kernel's run: every buffer outside the launches' scopes ends at the fold of the host operations and the launches'
   arrays; read at the two results, the words' values, and at the arguments, the arguments. -/
module

public import proofs.«01_k».proof.Proof.Region
public import proofs.«01_k».proof.Proof.Entry

@[expose] public section

set_option maxRecDepth 65536
set_option maxHeartbeats 4000000

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Gru

section Run

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every fair execution ends with the unscoped buffers at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W28 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W28 m ρ c b)
    (hfin := fun c s' => by
      iintro ⟨⟨Hh, -⟩, HSI⟩
      unfold StableHlo.held
      imodintro
      iapply (pointsTo_read_all (Pipeline.ucRefs τ sig) (fun b => (((c : Thread nD τ)).1, b)) (W28 m ρ c) s')
      isplitl [Hh] <;> iassumption)
    (hQ := fun s h hz => h)

end Run

variable (m : (ℓ : Loc nD τ sig) → Buf (Elt Ideal) ℓ) (ρ : Dev nD → PrngReg) (c : Dev nD)

/-- What the first launch reads. -/
theorem ready0 : Region.Ready (V25 m ρ) c (m ((c : Thread nD τ).loc main_arg4))
    (m ((c : Thread nD τ).loc main_arg5)) (m ((c : Thread nD τ).loc main_arg9))
    (m ((c : Thread nD τ).loc main_arg6)) (m ((c : Thread nD τ).loc main_arg10))
    (m ((c : Thread nD τ).loc main_arg7)) (m ((c : Thread nD τ).loc main_arg8))
    (m ((c : Thread nD τ).loc main_arg11)) (m ((c : Thread nD τ).loc main_arg12)) where
  emb := W25_args m ρ c main_arg4 (by decide)
  witF := Pack.at_v6 m ρ c
  whtF := Pack.at_v21 m ρ c
  tbF := Pack.at_v42 m ρ c
  nbF := Pack.at_v62 m ρ c
  witB := Pack.at_v13 m ρ c
  whtB := Pack.at_v29 m ρ c
  tbB := Pack.at_v55 m ρ c
  nbB := Pack.at_v69 m ρ c

/-- The second launch reads the same: neither the first launch nor the reshape before it writes these arrays. -/
theorem keep (r : Ref sig .tc) (h : r ∉ hostOps1_W)
    (h' : ∀ w : Fin cfg0.W, Pipeline.arrRef spec0 w = r → (cfg0.win w).isOut = false) :
    W27 m ρ c (Proc.devRef .tc r) = W25 m ρ c (Proc.devRef .tc r) :=
  (W27_of m ρ c r h).trans (W26_of m ρ c r h')

theorem ready1 : Region.Ready (V27 m ρ) c (m ((c : Thread nD τ).loc main_arg4))
    (m ((c : Thread nD τ).loc main_arg5)) (m ((c : Thread nD τ).loc main_arg9))
    (m ((c : Thread nD τ).loc main_arg6)) (m ((c : Thread nD τ).loc main_arg10))
    (m ((c : Thread nD τ).loc main_arg7)) (m ((c : Thread nD τ).loc main_arg8))
    (m ((c : Thread nD τ).loc main_arg11)) (m ((c : Thread nD τ).loc main_arg12)) where
  emb := W27_args m ρ c main_arg4 (by decide)
  witF := (keep m ρ c main_v6 (by decide) (by decide)).trans (Pack.at_v6 m ρ c)
  whtF := (keep m ρ c main_v21 (by decide) (by decide)).trans (Pack.at_v21 m ρ c)
  tbF := (keep m ρ c main_v42 (by decide) (by decide)).trans (Pack.at_v42 m ρ c)
  nbF := (keep m ρ c main_v62 (by decide) (by decide)).trans (Pack.at_v62 m ρ c)
  witB := (keep m ρ c main_v13 (by decide) (by decide)).trans (Pack.at_v13 m ρ c)
  whtB := (keep m ρ c main_v29 (by decide) (by decide)).trans (Pack.at_v29 m ρ c)
  tbB := (keep m ρ c main_v55 (by decide) (by decide)).trans (Pack.at_v55 m ρ c)
  nbB := (keep m ρ c main_v69 (by decide) (by decide)).trans (Pack.at_v69 m ρ c)

/-- The second launch's words. -/
theorem at_v72 : W27 m ρ c (Proc.devRef .tc main_v72)
    = shapeCast S800x16 (m ((c : Thread nD τ).loc main_arg3)) shapeCasts_S16x50x16_S800x16 := by
  have e : W26 m ρ c (Proc.devRef .tc main_arg3) = m ((c : Thread nD τ).loc main_arg3) := W26_args m ρ c main_arg3 (by decide)
  rw [← e]
  unfold W27
  after_reads_simp
  rfl

/-- The forward direction's weights of the arguments, and the backward direction's. -/
abbrev wF : Weights := Pack.weights (m ((c : Thread nD τ).loc main_arg5)) (m ((c : Thread nD τ).loc main_arg6))
  (m ((c : Thread nD τ).loc main_arg7)) (m ((c : Thread nD τ).loc main_arg8))
abbrev wB : Weights := Pack.weights (m ((c : Thread nD τ).loc main_arg9)) (m ((c : Thread nD τ).loc main_arg10))
  (m ((c : Thread nD τ).loc main_arg11)) (m ((c : Thread nD τ).loc main_arg12))

/-- The two arrays of words, a row each. -/
abbrev ch : IVec S6400x16 32 := shapeCast S6400x16 (m ((c : Thread nD τ).loc main_arg2)) shapeCasts_S16x400x16_S6400x16
abbrev qh : IVec S800x16 32 := shapeCast S800x16 (m ((c : Thread nD τ).loc main_arg3)) shapeCasts_S16x50x16_S800x16

theorem result0 (f : Finite (wF m c).Wh (wF m c).bh) (f' : Finite (wB m c).Wh (wB m c).bh)
    (ht : ∀ i k, (ch m c (ix2 i k)).toNat < 96) :
    W28 m ρ c (Proc.devRef .tc main_v71)
      = Region.values (R := 6400) (ch m c) (m ((c : Thread nD τ).loc main_arg4)) (wF m c) (wB m c) := by
  rw [W28_of_ne m ρ c main_v71 (by decide), W27_of m ρ c main_v71 (by decide)]
  exact (W26_arr m ρ c 10).trans (Region.region0 (ready0 m ρ c) f f' _ (Pack.at_v70 m ρ c) ht)

theorem result1 (f : Finite (wF m c).Wh (wF m c).bh) (f' : Finite (wB m c).Wh (wB m c).bh)
    (ht : ∀ i k, (qh m c (ix2 i k)).toNat < 96) :
    W28 m ρ c (Proc.devRef .tc main_v73)
      = Region.values (R := 800) (qh m c) (m ((c : Thread nD τ).loc main_arg4)) (wF m c) (wB m c) :=
  (W28_arr m ρ c 10).trans (Region.region1 (ready1 m ρ c) f f' _ (at_v72 m ρ c) ht)

end Cert.KernelIdeal.Run
-- ==== Proof.RefStep.lean ====
/- One trip of the reference's loop, read at one word and one hidden unit: `refStep` where the mask is set, the old state
   elsewhere. Both directions are one function of their operands. -/
module

public import proofs.«01_k».proof.Proof.Gen.ReferenceIdeal.Run
public import proofs.«01_k».proof.Proof.Word
public import Idealize.ShloMosaic.Lib.DynamicIndex

@[expose] public section

set_option maxRecDepth 65536
set_option maxHeartbeats 2000000

noncomputable section

namespace Cert.ReferenceIdeal.Trip

open Idealize.ShloMosaic Idealize.ShloMosaic.TcCoe Idealize.SL.Sem
open Cert.ReferenceIdeal Cert.ReferenceIdeal.Gen Cert.ReferenceIdeal.Value
open Cert.Gru

/-- The input's dense layer at the trip's characters. -/
def inp (ctr : IVec S_ 32) (xs : FVec Ideal S16x7200x64 .f32) (W : FVec Ideal S300x64 .f32) (b : FVec Ideal S300 .f32) :
    FVec Ideal S7200x300 .f32 :=
  addf (Host.dotGeneral dot_S7200x64_S64x300_S7200x300_1_0_0_1_n_n none (shapeCast S7200x64 (Host.dynamicSlice S1x7200x64 xs
      (fun k => (((![ctr, constantI S_ 32 0#32, constantI S_ 32 0#32] : Fin 3 → IVec S_ 32)) k (Shape.Idx.first h_S_)).toInt)
      sliceFits_S16x7200x64_S1x7200x64) shapeCasts_S1x7200x64_S7200x64) (transpose S64x300 [1, 0] W transposes_S300x64_S64x300_1_0))
    (broadcastInDim S7200x300 ![0, 1] bcast_S1x300_S7200x300_0_1 (broadcastInDim S1x300 ![1] bcast_S300_S1x300_1 b))

/-- The state's dense layer. -/
def hid (h : FVec Ideal S7200x100 .f32) (W : FVec Ideal S300x100 .f32) (b : FVec Ideal S300 .f32) : FVec Ideal S7200x300 .f32 :=
  addf (Host.dotGeneral dot_S7200x100_S100x300_S7200x300_1_0_0_1_n_n none h (transpose S100x300 [1, 0] W transposes_S300x100_S100x300_1_0))
    (broadcastInDim S7200x300 ![0, 1] bcast_S1x300_S7200x300_0_1 (broadcastInDim S1x300 ![1] bcast_S300_S1x300_1 b))

/-- The trip's mask over the hidden units. -/
def msk (ctr : IVec S_ 32) (ms : IVec S16x7200 1) : IVec S7200x100 1 :=
  broadcastInDim S7200x100 ![0, 1] bcast_S7200x1_S7200x100_0_1 (broadcastInDim S7200x1 ![0] bcast_S7200_S7200x1_0
    (shapeCast S7200 (Host.dynamicSlice S1x7200 ms
      (fun k => (((![ctr, constantI S_ 32 0#32] : Fin 2 → IVec S_ 32)) k (Shape.Idx.first h_S_)).toInt)
      sliceFits_S16x7200_S1x7200) shapeCasts_S1x7200_S7200))

/-- The logistic function as the reference spells it. -/
def sigm (u : FVec Ideal S7200x100 .f32) : FVec Ideal S7200x100 .f32 :=
  Host.divf (broadcastInDim S7200x100 ![] bcast_S_S7200x100 (constant S_ .f32 0x3F800000#32))
    (addf (broadcastInDim S7200x100 ![] bcast_S_S7200x100 (constant S_ .f32 0x3F800000#32)) (Host.exp (Host.negf u)))

/-- The new state of the two dense layers, the mask and the old state. -/
def gru (gx gh : FVec Ideal S7200x300 .f32) (c : IVec S7200x100 1) (h : FVec Ideal S7200x100 .f32) : FVec Ideal S7200x100 .f32 :=
  select c
    (addf
      (mulf
        (subf (broadcastInDim S7200x100 ![] bcast_S_S7200x100 (constant S_ .f32 0x3F800000#32))
          (sigm (addf (extractStridedSlice S7200x100 ![0, 100] gx slices_S7200x300_S7200x100_0_100)
            (extractStridedSlice S7200x100 ![0, 100] gh slices_S7200x300_S7200x100_0_100))))
        (Host.tanh (addf (extractStridedSlice S7200x100 ![0, 200] gx slices_S7200x300_S7200x100_0_200)
          (mulf (sigm (addf (extractStridedSlice S7200x100 ![0, 0] gx slices_S7200x300_S7200x100_0_0)
              (extractStridedSlice S7200x100 ![0, 0] gh slices_S7200x300_S7200x100_0_0)))
            (extractStridedSlice S7200x100 ![0, 200] gh slices_S7200x300_S7200x100_0_200)))))
      (mulf (sigm (addf (extractStridedSlice S7200x100 ![0, 100] gx slices_S7200x300_S7200x100_0_100)
        (extractStridedSlice S7200x100 ![0, 100] gh slices_S7200x300_S7200x100_0_100))) h))
    h

theorem toInt_ofNat16 : ∀ k : Fin 16, (BitVec.ofNat 32 k.val).toInt = (k.val : ℤ) := by decide

theorem inp_at (k : Fin 16) (xs : FVec Ideal S16x7200x64 .f32) (W : FVec Ideal S300x64 .f32) (b : FVec Ideal S300 .f32)
    (i : Fin 7200) (c : Fin 300) :
    inp (fun _ => BitVec.ofNat 32 k.val) xs W b (ix2 i c)
      = dense (fun e => xs (ix3 k i e)) (fun r e => W (ix2 r e)) (fun r => b (ix1 r)) c := by
  unfold dense inp
  rw [Host.dynamicSlice_eq_extractStridedSlice S1x7200x64 xs _ ![k.val, 0, 0] _
    ((by decide : ∀ k : Fin 16, S16x7200x64.Slices ![k.val, 0, 0] S1x7200x64) k)]
  · pointwise []
  · intro a
    fin_cases a
    · exact toInt_ofNat16 k
    · rfl
    · rfl

theorem hid_at (h : FVec Ideal S7200x100 .f32) (W : FVec Ideal S300x100 .f32) (b : FVec Ideal S300 .f32) (i : Fin 7200)
    (c : Fin 300) :
    hid h W b (ix2 i c) = dense (fun e => h (ix2 i e)) (fun r e => W (ix2 r e)) (fun r => b (ix1 r)) c := by
  unfold dense hid
  pointwise []

theorem msk_at (k : Fin 16) (ms : IVec S16x7200 1) (i : Fin 7200) (j : Fin 100) :
    msk (fun _ => BitVec.ofNat 32 k.val) ms (ix2 i j) = ms (ix2 k i) := by
  unfold msk
  rw [Host.dynamicSlice_eq_extractStridedSlice S1x7200 ms _ ![k.val, 0] _
    ((by decide : ∀ k : Fin 16, S16x7200.Slices ![k.val, 0] S1x7200) k)]
  · pointwise []
  · intro a
    fin_cases a
    · exact toInt_ofNat16 k
    · rfl

theorem sigm_at (u : FVec Ideal S7200x100 .f32) (y : S7200x100.Idx) : sigm u y = gate (u y) := by
  unfold sigm gate
  pointwise []

theorem gru_at (gx gh : FVec Ideal S7200x300 .f32) (c : IVec S7200x100 1) (h : FVec Ideal S7200x100 .f32) (i : Fin 7200)
    (j : Fin 100) :
    gru gx gh c h (ix2 i j)
      = if c (ix2 i j) = 1#1 then
          refCell (gx (ix2 i (row 0 j))) (gx (ix2 i (row 1 j))) (gx (ix2 i (row 2 j)))
            (gh (ix2 i (row 0 j))) (gh (ix2 i (row 1 j))) (gh (ix2 i (row 2 j))) (h (ix2 i j))
        else h (ix2 i j) := by
  unfold refCell gru row
  pointwise [sigm_at]
  rfl

/-- One trip at one word and unit. -/
theorem trip_at (k : Fin 16) (xs : FVec Ideal S16x7200x64 .f32) (ms : IVec S16x7200 1) (Wi : FVec Ideal S300x64 .f32)
    (bi : FVec Ideal S300 .f32) (Wh : FVec Ideal S300x100 .f32) (bh : FVec Ideal S300 .f32) (h : FVec Ideal S7200x100 .f32)
    (i : Fin 7200) (j : Fin 100) :
    gru (inp (fun _ => BitVec.ofNat 32 k.val) xs Wi bi) (hid h Wh bh) (msk (fun _ => BitVec.ofNat 32 k.val) ms) h (ix2 i j)
      = if ms (ix2 k i) = 1#1 then
          refStep (fun r e => Wi (ix2 r e)) (fun r e => Wh (ix2 r e)) (fun r => bi (ix1 r)) (fun r => bh (ix1 r))
            (fun e => xs (ix3 k i e)) (fun e => h (ix2 i e)) j
        else h (ix2 i j) := by
  rw [gru_at, msk_at]
  simp only [inp_at, hid_at]
  rfl

theorem step13 (V : Valuation τ sig (Elt Ideal)) :
    step_main_v19_13 V = gru (inp (V (Proc.devRef .tc main_v19_12)) (V (Proc.devRef .tc main_v19_0)) (V (Proc.devRef .tc main_v19_4)) (V (Proc.devRef .tc main_v19_5)))
      (hid (V (Proc.devRef .tc main_v19_13)) (V (Proc.devRef .tc main_v19_6)) (V (Proc.devRef .tc main_v19_7)))
      (msk (V (Proc.devRef .tc main_v19_12)) (V (Proc.devRef .tc main_v19_1))) (V (Proc.devRef .tc main_v19_13)) := rfl

theorem step14 (V : Valuation τ sig (Elt Ideal)) :
    step_main_v19_14 V = gru (inp (V (Proc.devRef .tc main_v19_12)) (V (Proc.devRef .tc main_v19_2)) (V (Proc.devRef .tc main_v19_8)) (V (Proc.devRef .tc main_v19_9)))
      (hid (V (Proc.devRef .tc main_v19_14)) (V (Proc.devRef .tc main_v19_10)) (V (Proc.devRef .tc main_v19_11)))
      (msk (V (Proc.devRef .tc main_v19_12)) (V (Proc.devRef .tc main_v19_3))) (V (Proc.devRef .tc main_v19_14)) := rfl

end Cert.ReferenceIdeal.Trip
-- ==== Proof.RefIter.lean ====
/- The reference's loop, iterated: after `k` trips each direction's state is `refRun` over `k` characters, and the counter
   is `k`. -/
module

public import proofs.«01_k».proof.Proof.RefStep

@[expose] public section

set_option maxRecDepth 65536
set_option maxHeartbeats 2000000

noncomputable section

namespace Cert.ReferenceIdeal.Trip

open Idealize.ShloMosaic Idealize.ShloMosaic.TcCoe Idealize.ShloMosaic.StableHlo Idealize.SL.Sem
open Cert.ReferenceIdeal Cert.ReferenceIdeal.Gen Cert.ReferenceIdeal.Value
open Cert.Gru

/-- The recurrence over carried operands, from the rows and the mask they hold at each trip. -/
def carried (xs : FVec Ideal S16x7200x64 .f32) (ms : IVec S16x7200 1) (Wi : FVec Ideal S300x64 .f32)
    (bi : FVec Ideal S300 .f32) (Wh : FVec Ideal S300x100 .f32) (bh : FVec Ideal S300 .f32) (k : ℕ) (i : Fin 7200) : Fin 100 → EReal :=
  refRun (fun r e => Wi (ix2 r e)) (fun r e => Wh (ix2 r e)) (fun r => bi (ix1 r)) (fun r => bh (ix1 r))
    (fun s e => xs (ix3 ⟨s % 16, Nat.mod_lt _ (by decide)⟩ i e)) (fun s => ms (ix2 ⟨s % 16, Nat.mod_lt _ (by decide)⟩ i) = 1#1) k

/-- One trip carries the recurrence on. -/
theorem carried_succ (k : ℕ) (hk : k < 16) (xs : FVec Ideal S16x7200x64 .f32) (ms : IVec S16x7200 1) (Wi : FVec Ideal S300x64 .f32)
    (bi : FVec Ideal S300 .f32) (Wh : FVec Ideal S300x100 .f32) (bh : FVec Ideal S300 .f32) (h : FVec Ideal S7200x100 .f32)
    (hh : ∀ i j, h (ix2 i j) = carried xs ms Wi bi Wh bh k i j) (i : Fin 7200) (j : Fin 100) :
    gru (inp (fun _ => BitVec.ofNat 32 k) xs Wi bi) (hid h Wh bh) (msk (fun _ => BitVec.ofNat 32 k) ms) h (ix2 i j)
      = carried xs ms Wi bi Wh bh (k + 1) i j := by
  have ek : (⟨k % 16, Nat.mod_lt _ (by decide)⟩ : Fin 16) = ⟨k, hk⟩ := Fin.ext (Nat.mod_eq_of_lt hk)
  refine (trip_at ⟨k, hk⟩ xs ms Wi bi Wh bh h i j).trans ?_
  simp only [hh]
  unfold carried
  rw [refRun]
  simp only [ek]

variable (V : Valuation τ sig (Elt Ideal))

/-- The trips leave a buffer they do not carry as it is. -/
theorem iter_keeps (b : DevRef τ sig) (h12 : b ≠ Proc.devRef .tc main_v19_12) (h13 : b ≠ Proc.devRef .tc main_v19_13)
    (h14 : b ≠ Proc.devRef .tc main_v19_14) (k : ℕ) : STEP^[k] V b = V b := by
  induction k with
  | zero => rfl
  | succ k ih =>
    rw [Function.iterate_succ_apply']
    unfold STEP
    rw [Function.update_of_ne h14, Function.update_of_ne h13, Function.update_of_ne h12]
    exact ih

theorem iter_ctr (h0 : V (Proc.devRef .tc main_v19_12) = (fun _ => 0#32 : IVec S_ 32)) (k : ℕ) :
    STEP^[k] V (Proc.devRef .tc main_v19_12) = (fun _ => BitVec.ofNat 32 k : IVec S_ 32) := by
  induction k with
  | zero => exact h0
  | succ k ih =>
    rw [Function.iterate_succ_apply', STEP_main_v19_12]
    unfold step_main_v19_12
    rw [ih]
    funext y
    show BitVec.ofNat 32 k + 1#32 = _
    rw [BitVec.ofNat_add]

theorem iter13 (h0 : V (Proc.devRef .tc main_v19_12) = (fun _ => 0#32 : IVec S_ 32))
    (hz : ∀ y : S7200x100.Idx, (V (Proc.devRef .tc main_v19_13) : FVec Ideal S7200x100 .f32) y = (0 : EReal)) (k : ℕ) (hk : k ≤ 16) (i : Fin 7200) (j : Fin 100) :
    (STEP^[k] V (Proc.devRef .tc main_v19_13) : FVec Ideal S7200x100 .f32) (ix2 i j)
      = carried (V (Proc.devRef .tc main_v19_0)) (V (Proc.devRef .tc main_v19_1)) (V (Proc.devRef .tc main_v19_4))
          (V (Proc.devRef .tc main_v19_5)) (V (Proc.devRef .tc main_v19_6)) (V (Proc.devRef .tc main_v19_7)) k i j := by
  induction k generalizing i j with
  | zero => exact hz _
  | succ k ih =>
    rw [Function.iterate_succ_apply', STEP_main_v19_13, step13, iter_ctr V h0 k]
    simp only [iter_keeps V (Proc.devRef .tc main_v19_0) (devRef_ne_of_ne (by decide)) (devRef_ne_of_ne (by decide)) (devRef_ne_of_ne (by decide)),
      iter_keeps V (Proc.devRef .tc main_v19_1) (devRef_ne_of_ne (by decide)) (devRef_ne_of_ne (by decide)) (devRef_ne_of_ne (by decide)),
      iter_keeps V (Proc.devRef .tc main_v19_4) (devRef_ne_of_ne (by decide)) (devRef_ne_of_ne (by decide)) (devRef_ne_of_ne (by decide)),
      iter_keeps V (Proc.devRef .tc main_v19_5) (devRef_ne_of_ne (by decide)) (devRef_ne_of_ne (by decide)) (devRef_ne_of_ne (by decide)),
      iter_keeps V (Proc.devRef .tc main_v19_6) (devRef_ne_of_ne (by decide)) (devRef_ne_of_ne (by decide)) (devRef_ne_of_ne (by decide)),
      iter_keeps V (Proc.devRef .tc main_v19_7) (devRef_ne_of_ne (by decide)) (devRef_ne_of_ne (by decide)) (devRef_ne_of_ne (by decide))]
    exact carried_succ k (by omega) _ _ _ _ _ _ _ (ih (by omega)) i j

theorem iter14 (h0 : V (Proc.devRef .tc main_v19_12) = (fun _ => 0#32 : IVec S_ 32))
    (hz : ∀ y : S7200x100.Idx, (V (Proc.devRef .tc main_v19_14) : FVec Ideal S7200x100 .f32) y = (0 : EReal)) (k : ℕ) (hk : k ≤ 16) (i : Fin 7200) (j : Fin 100) :
    (STEP^[k] V (Proc.devRef .tc main_v19_14) : FVec Ideal S7200x100 .f32) (ix2 i j)
      = carried (V (Proc.devRef .tc main_v19_2)) (V (Proc.devRef .tc main_v19_3)) (V (Proc.devRef .tc main_v19_8))
          (V (Proc.devRef .tc main_v19_9)) (V (Proc.devRef .tc main_v19_10)) (V (Proc.devRef .tc main_v19_11)) k i j := by
  induction k generalizing i j with
  | zero => exact hz _
  | succ k ih =>
    rw [Function.iterate_succ_apply', STEP_main_v19_14, step14, iter_ctr V h0 k]
    simp only [iter_keeps V (Proc.devRef .tc main_v19_2) (devRef_ne_of_ne (by decide)) (devRef_ne_of_ne (by decide)) (devRef_ne_of_ne (by decide)),
      iter_keeps V (Proc.devRef .tc main_v19_3) (devRef_ne_of_ne (by decide)) (devRef_ne_of_ne (by decide)) (devRef_ne_of_ne (by decide)),
      iter_keeps V (Proc.devRef .tc main_v19_8) (devRef_ne_of_ne (by decide)) (devRef_ne_of_ne (by decide)) (devRef_ne_of_ne (by decide)),
      iter_keeps V (Proc.devRef .tc main_v19_9) (devRef_ne_of_ne (by decide)) (devRef_ne_of_ne (by decide)) (devRef_ne_of_ne (by decide)),
      iter_keeps V (Proc.devRef .tc main_v19_10) (devRef_ne_of_ne (by decide)) (devRef_ne_of_ne (by decide)) (devRef_ne_of_ne (by decide)),
      iter_keeps V (Proc.devRef .tc main_v19_11) (devRef_ne_of_ne (by decide)) (devRef_ne_of_ne (by decide)) (devRef_ne_of_ne (by decide))]
    exact carried_succ k (by omega) _ _ _ _ _ _ _ (ih (by omega)) i j

end Cert.ReferenceIdeal.Trip
-- ==== Proof.RefEntry.lean ====
/- What the reference carries into its loop: the rows of the embedding table at each position of each word, the mask of
   the positions within the word, both also from the last position to the first, and the weights. -/
module

public import proofs.«01_k».proof.Proof.RefStep
public import Idealize.ShloMosaic.Lib.StableHlo.ReadAt
public import Idealize.ShloMosaic.Lib.ReduceAll

@[expose] public section

set_option maxRecDepth 65536
set_option maxHeartbeats 4000000

noncomputable section

namespace Cert.ReferenceIdeal.Trip

open Idealize.ShloMosaic Idealize.ShloMosaic.TcCoe Idealize.SL.Sem Idealize.ShloMosaic.StableHlo
open Cert.ReferenceIdeal Cert.ReferenceIdeal.Gen Cert.ReferenceIdeal.Value
open Cert.Gru

/-- All 7200 words. -/
def words (a : IVec S16x400x16 32) (b : IVec S16x50x16 32) : IVec S7200x16 32 :=
  concatenate S7200x16 0 [⟨S6400x16, shapeCast S6400x16 a shapeCasts_S16x400x16_S6400x16⟩,
    ⟨S800x16, shapeCast S800x16 b shapeCasts_S16x50x16_S800x16⟩] concatenates_S6400x16_S800x16_S7200x16_d0

/-- The positions within each word. -/
def within (w : IVec S7200x16 32) : IVec S7200x16 1 :=
  cmpi .slt (broadcastInDim S7200x16 ![0, 1] bcast_S1x16_S7200x16_0_1 (broadcastInDim S1x16 ![1] bcast_S16_S1x16_1 (iotaInDim S16 32 0)))
    (broadcastInDim S7200x16 ![0, 1] bcast_S7200x1_S7200x16_0_1 (broadcastInDim S7200x1 ![0] bcast_S7200_S7200x1_0
      (Host.reduce IntOp.addi (extui 32 (cmpi .ne w (broadcastInDim S7200x16 ![] bcast_S_S7200x16 (constantI S_ 32 0#32))) natLt_1_32)
        (constantI S_ 32 0#32) reducesTo_S7200x16_S7200_d1 h_S_)))

/-- The characters as rows of the table: a negative one counts from the table's end. -/
def rows (w : IVec S7200x16 32) : IVec S7200x16x1 32 :=
  broadcastInDim S7200x16x1 ![0, 1] bcast_S7200x16_S7200x16x1_0_1
    (select (cmpi .slt w (broadcastInDim S7200x16 ![] bcast_S_S7200x16 (constantI S_ 32 0#32)))
      (addi w (broadcastInDim S7200x16 ![] bcast_S_S7200x16 (constantI S_ 32 96#32))) w)

/-- The rows that the table has. -/
def inTable (r : IVec S7200x16x1 32) : IVec S7200x16 1 :=
  Host.reduce IntOp.andi (andi (cmpi .sge r (broadcastInDim S7200x16x1 ![] bcast_S_S7200x16x1 (constantI S_ 32 0#32)))
    (cmpi .sle r (broadcastInDim S7200x16x1 ![0, 1, 2] bcast_S1x1x1_S7200x16x1_0_1_2 (broadcastInDim S1x1x1 ![2] bcast_S1_S1x1x1_2 (constantI S1 32 95#32)))))
    (constantI S_ 1 1#1) reducesTo_S7200x16x1_S7200x16_d2 h_S_

/-- The table's rows at the characters. -/
def taken (tab : FVec Ideal S96x64 .f32) (w : IVec S7200x16 32) : FVec Ideal S7200x16x64 .f32 :=
  select (broadcastInDim S7200x16x64 ![0, 1] bcast_S7200x16_S7200x16x64_0_1 (inTable (rows w)))
    (Host.gather gather_S96x64_S7200x16x1_S7200x16x64_2_0_n_n_0_2_164 tab (rows w))
    (broadcastInDim S7200x16x64 ![] bcast_S_S7200x16x64 (constant S_ .f32 0x7FC00000#32))

variable (m : (ℓ : Loc nD τ sig) → Buf (Elt Ideal) ℓ) (c : Dev nD)

/-! The host's operations before the loop, a stretch at a time. -/

theorem words_of : after hostOps0 (launchContents m c) (Proc.devRef .tc main_v2)
    = words (m ((c : Thread nD τ).loc main_arg2)) (m ((c : Thread nD τ).loc main_arg3)) := by
  after_reads_simp
  rfl

theorem tab_of : after hostOps0 (launchContents m c) (Proc.devRef .tc main_arg4) = m ((c : Thread nD τ).loc main_arg4) := by
  after_reads_simp

theorem taken_of (X : Valuation τ sig (Elt Ideal)) : after hostOps0_1 X (Proc.devRef .tc main_v13)
    = taken (X (Proc.devRef .tc main_arg4)) (X (Proc.devRef .tc main_v2)) := by
  after_reads_simp
  simp -implicitDefEqProofs only [StableHlo.TRef.ofBuf_toBuf]
  unfold taken inTable rows
  simp -implicitDefEqProofs only [StableHlo.TRef.toBuf, StableHlo.TRef.ofBuf, cast_eq]

theorem xs_of (X : Valuation τ sig (Elt Ideal)) : after hostOps0_2 X (Proc.devRef .tc main_v19_0)
    = transpose S16x7200x64 [1, 0, 2] (X (Proc.devRef .tc main_v13)) transposes_S7200x16x64_S16x7200x64_1_0_2 := by
  after_reads_simp
  rfl

theorem xs'_of (X : Valuation τ sig (Elt Ideal)) : after hostOps0_2 X (Proc.devRef .tc main_v19_2)
    = Host.reverse [0] (transpose S16x7200x64 [1, 0, 2] (X (Proc.devRef .tc main_v13)) transposes_S7200x16x64_S16x7200x64_1_0_2) := by
  after_reads_simp
  rfl

/-- The table's rows at the characters of every word. -/
abbrev rowsOf : FVec Ideal S7200x16x64 .f32 := taken (m ((c : Thread nD τ).loc main_arg4))
  (words (m ((c : Thread nD τ).loc main_arg2)) (m ((c : Thread nD τ).loc main_arg3)))

theorem rows_of : after hostOps0_1 (after hostOps0 (launchContents m c)) (Proc.devRef .tc main_v13) = rowsOf m c := by
  rw [taken_of, words_of, tab_of]

theorem entry_xs : entryContents preI m c (Proc.devRef .tc main_v19_0)
    = transpose S16x7200x64 [1, 0, 2] (rowsOf m c) transposes_S7200x16x64_S16x7200x64_1_0_2 := by
  simp only [entryContents, afterL_cons, afterL_nil]
  rw [xs_of, rows_of]

theorem entry_xs' : entryContents preI m c (Proc.devRef .tc main_v19_2)
    = Host.reverse [0] (transpose S16x7200x64 [1, 0, 2] (rowsOf m c) transposes_S7200x16x64_S16x7200x64_1_0_2) := by
  simp only [entryContents, afterL_cons, afterL_nil]
  rw [xs'_of, rows_of]

theorem within_of : after hostOps0 (launchContents m c) (Proc.devRef .tc main_v12)
    = within (words (m ((c : Thread nD τ).loc main_arg2)) (m ((c : Thread nD τ).loc main_arg3))) := by
  after_reads_simp
  rfl

theorem within_kept (X : Valuation τ sig (Elt Ideal)) :
    after hostOps0_1 X (Proc.devRef .tc main_v12) = X (Proc.devRef .tc main_v12) := by
  after_reads_simp

theorem ms_of (X : Valuation τ sig (Elt Ideal)) : after hostOps0_2 X (Proc.devRef .tc main_v19_1)
    = transpose S16x7200 [1, 0] (X (Proc.devRef .tc main_v12)) transposes_S7200x16_S16x7200_1_0 := by
  after_reads_simp
  rfl

theorem ms'_of (X : Valuation τ sig (Elt Ideal)) : after hostOps0_2 X (Proc.devRef .tc main_v19_3)
    = Host.reverse [0] (transpose S16x7200 [1, 0] (X (Proc.devRef .tc main_v12)) transposes_S7200x16_S16x7200_1_0) := by
  after_reads_simp
  rfl

/-- Every word of both results. -/
abbrev wordsOf : IVec S7200x16 32 := words (m ((c : Thread nD τ).loc main_arg2)) (m ((c : Thread nD τ).loc main_arg3))

theorem entry_ms : entryContents preI m c (Proc.devRef .tc main_v19_1)
    = transpose S16x7200 [1, 0] (within (wordsOf m c)) transposes_S7200x16_S16x7200_1_0 := by
  simp only [entryContents, afterL_cons, afterL_nil]
  rw [ms_of, within_kept, within_of]

theorem entry_ms' : entryContents preI m c (Proc.devRef .tc main_v19_3)
    = Host.reverse [0] (transpose S16x7200 [1, 0] (within (wordsOf m c)) transposes_S7200x16_S16x7200_1_0) := by
  simp only [entryContents, afterL_cons, afterL_nil]
  rw [ms'_of, within_kept, within_of]

/-- The weights are carried as they are. -/
theorem entry_weights :
    entryContents preI m c (Proc.devRef .tc main_v19_4) = m ((c : Thread nD τ).loc main_arg5)
    ∧ entryContents preI m c (Proc.devRef .tc main_v19_5) = m ((c : Thread nD τ).loc main_arg7)
    ∧ entryContents preI m c (Proc.devRef .tc main_v19_6) = m ((c : Thread nD τ).loc main_arg6)
    ∧ entryContents preI m c (Proc.devRef .tc main_v19_7) = m ((c : Thread nD τ).loc main_arg8)
    ∧ entryContents preI m c (Proc.devRef .tc main_v19_8) = m ((c : Thread nD τ).loc main_arg9)
    ∧ entryContents preI m c (Proc.devRef .tc main_v19_9) = m ((c : Thread nD τ).loc main_arg11)
    ∧ entryContents preI m c (Proc.devRef .tc main_v19_10) = m ((c : Thread nD τ).loc main_arg10)
    ∧ entryContents preI m c (Proc.devRef .tc main_v19_11) = m ((c : Thread nD τ).loc main_arg12) := by
  simp only [entryContents, afterL_cons, afterL_nil]
  refine ⟨?_, ?_, ?_, ?_, ?_, ?_, ?_, ?_⟩ <;> (after_reads_simp; rfl)

/-- The counter and both states start at zero. -/
theorem entry_ctr : entryContents preI m c (Proc.devRef .tc main_v19_12) = (fun _ => 0#32 : IVec S_ 32) := by
  simp only [entryContents, afterL_cons, afterL_nil]
  after_reads_simp
  rfl

theorem zero_const : FloatOps.ofBits (F := Ideal) .f32 0x00000000#32 = (0 : EReal) := by
  pointwise []

theorem entry_zero13 (y : S7200x100.Idx) : (entryContents preI m c (Proc.devRef .tc main_v19_13) : FVec Ideal S7200x100 .f32) y = (0 : EReal) := by
  have e : entryContents preI m c (Proc.devRef .tc main_v19_13)
      = (broadcastInDim S7200x100 ![] bcast_S_S7200x100 (constant S_ .f32 0x00000000#32) : FVec Ideal S7200x100 .f32) := by
    simp only [entryContents, afterL_cons, afterL_nil]
    after_reads_simp
    rfl
  rw [e]
  exact zero_const

theorem entry_zero14 (y : S7200x100.Idx) : (entryContents preI m c (Proc.devRef .tc main_v19_14) : FVec Ideal S7200x100 .f32) y = (0 : EReal) := by
  have e : entryContents preI m c (Proc.devRef .tc main_v19_14)
      = (broadcastInDim S7200x100 ![] bcast_S_S7200x100 (constant S_ .f32 0x00000000#32) : FVec Ideal S7200x100 .f32) := by
    simp only [entryContents, afterL_cons, afterL_nil]
    after_reads_simp
    rfl
  rw [e]
  exact zero_const

/-- The gather's element: the table at the row its index word names, clamped into the table. -/
theorem gather_at (tab : FVec Ideal S96x64 .f32) (r : IVec S7200x16x1 32) (i : Fin 7200) (k : Fin 16) (e : Fin 64) :
    Host.gather gather_S96x64_S7200x16x1_S7200x16x64_2_0_n_n_0_2_164 tab r (ix3 i k e)
      = tab (ix2 ⟨min (r (ix3 i k 0)).toInt.toNat 95, by omega⟩ e) := by
  unfold Host.gather
  congr 1
  funext a
  refine Fin.ext ?_
  show gather_S96x64_S7200x16x1_S7200x16x64_2_0_n_n_0_2_164.start (ix3 i k e) r a
    + gather_S96x64_S7200x16x1_S7200x16x64_2_0_n_n_0_2_164.batchCoord (ix3 i k e) a
    + gather_S96x64_S7200x16x1_S7200x16x64_2_0_n_n_0_2_164.offCoord (ix3 i k e) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S96x64_S7200x16x1_S7200x16x64_2_0_n_n_0_2_164.startIndexMap from List.mem_singleton.mpr rfl)]
    have hsi : gather_S96x64_S7200x16x1_S7200x16x64_2_0_n_n_0_2_164.siIdx (ix3 i k e)
        ⟨List.idxOf (0 : Fin 2) gather_S96x64_S7200x16x1_S7200x16x64_2_0_n_n_0_2_164.startIndexMap,
        List.idxOf_lt_length_iff.2 (List.mem_singleton.mpr rfl)⟩ = ix3 i k 0 := by
      funext b; refine Fin.ext ?_
      match b with
      | ⟨0, _⟩ => rfl
      | ⟨1, _⟩ => rfl
      | ⟨2, _⟩ => rfl
    rw [hsi]
    rfl
  · unfold GatherDims.start
    rw [dif_neg (show ¬ (1 : Fin 2) ∈ gather_S96x64_S7200x16x1_S7200x16x64_2_0_n_n_0_2_164.startIndexMap from by
      show ¬ (1 : Fin 2) ∈ [(0 : Fin 2)]; decide)]
    simp only [Nat.zero_add, Nat.add_zero]
    rfl

/-- A small word reads the same signed. -/
theorem toInt_small (x : BitVec 32) (h : x.toNat < 96) : x.toInt = (x.toNat : ℤ) :=
  BitVec.toInt_eq_toNat_of_lt (by omega)

theorem words_at (a : IVec S16x400x16 32) (b : IVec S16x50x16 32) (i : Fin 7200) (k : Fin 16) :
    words a b (ix2 i k) = if h : i.val < 6400 then shapeCast S6400x16 a shapeCasts_S16x400x16_S6400x16 (ix2 ⟨i.val, h⟩ k)
      else shapeCast S800x16 b shapeCasts_S16x50x16_S800x16 (ix2 ⟨i.val - 6400, by omega⟩ k) := by
  unfold words
  generalize shapeCast S6400x16 a shapeCasts_S16x400x16_S6400x16 = x
  generalize shapeCast S800x16 b shapeCasts_S16x50x16_S800x16 = y
  pointwise []

theorem within_at (w : IVec S7200x16 32) (i : Fin 7200) (k : Fin 16) :
    within w (ix2 i k) = 1#1 ↔ inWord (fun k => w (ix2 i k)) k.val := by
  unfold within inWord lenOf
  pointwise []
  rfl

theorem rows_at (w : IVec S7200x16 32) (i : Fin 7200) (k : Fin 16) (z : Fin 1) (h : (w (ix2 i k)).toNat < 96) :
    rows w (ix3 i k z) = w (ix2 i k) := by
  unfold rows
  pointwise []
  have e : IntOp.cmpi .slt (w (ix2 i k)) 0#32 = 0#1 := by
    have : (w (ix2 i k)).slt 0#32 = false := by
      rw [BitVec.slt, toInt_small _ h]
      exact decide_eq_false (by simp)
    simp [IntOp.cmpi, this]
  rw [e]
  rfl

theorem inTable_at (r : IVec S7200x16x1 32) (h : ∀ y, (r y).toNat < 96) (y : S7200x16.Idx) : inTable r y = 1#1 := by
  unfold inTable
  refine Host.reduce_andi_one _ _ _ _ _ rfl fun x => ?_
  have hx := h x
  idx_vars x
  pointwise []
  have e : IntOp.cmpi .sge (r (ix3 x0 x1 x2)) 0#32 = 1#1 := by
    have : BitVec.sle 0#32 (r (ix3 x0 x1 x2)) = true := by
      rw [BitVec.sle, toInt_small _ hx]
      exact decide_eq_true (by simp)
    simp [IntOp.cmpi, this]
  have e' : IntOp.cmpi .sle (r (ix3 x0 x1 x2)) 95#32 = 1#1 := by
    have : BitVec.sle (r (ix3 x0 x1 x2)) 95#32 = true := by
      rw [BitVec.sle, toInt_small _ hx]
      exact decide_eq_true (by simp; omega)
    simp [IntOp.cmpi, this]
  rw [e, e']
  rfl

theorem taken_at (tab : FVec Ideal S96x64 .f32) (w : IVec S7200x16 32) (h : ∀ i k, (w (ix2 i k)).toNat < 96)
    (i : Fin 7200) (k : Fin 16) (e : Fin 64) :
    taken tab w (ix3 i k e) = charRow (fun v e => tab (ix2 v e)) (fun k => w (ix2 i k)) k.val e := by
  have hr : ∀ y, (rows w y).toNat < 96 := fun y => by
    obtain ⟨i, k, z, rfl⟩ : ∃ (i : Fin 7200) (k : Fin 16) (z : Fin 1), y = ix3 i k z := ⟨y 0, y 1, y 2, eq_ix3 y⟩
    rw [rows_at w i k z (h i k)]; exact h i k
  unfold taken
  pointwise [gather_at, inTable_at _ hr]
  unfold charRow charAt
  have ek : (⟨k.val % 16, Nat.mod_lt _ (by decide)⟩ : Fin 16) = k := Fin.ext (Nat.mod_eq_of_lt k.isLt)
  refine congrArg (fun v => tab (ix2 v e)) (Fin.ext ?_)
  show min (rows w (ix3 i k 0)).toInt.toNat 95 = (w (ix2 i ⟨k.val % 16, _⟩)).toNat % 96
  rw [ek, rows_at w i k 0 (h i k), toInt_small _ (h i k)]
  have := h i k
  omega

end Cert.ReferenceIdeal.Trip
-- ==== Proof.RefValue.lean ====
/- The reference's two results: every word's value, in the rows of each result. -/
module

public import proofs.«01_k».proof.Proof.RefIter
public import proofs.«01_k».proof.Proof.RefEntry

@[expose] public section

set_option maxRecDepth 65536
set_option maxHeartbeats 2000000

noncomputable section

namespace Cert.ReferenceIdeal.Trip

open Idealize.ShloMosaic Idealize.ShloMosaic.TcCoe Idealize.ShloMosaic.StableHlo Idealize.SL.Sem
open Cert.ReferenceIdeal Cert.ReferenceIdeal.Gen Cert.ReferenceIdeal.Value
open Cert.Gru

/-- The recurrence reads only the rows and the mask of the steps it takes. -/
theorem refRun_congr (Wi : Fin 300 → Fin 64 → EReal) (Wh : Fin 300 → Fin 100 → EReal) (bi bh : Fin 300 → EReal)
    (x x' : ℕ → Fin 64 → EReal) (p p' : ℕ → Prop) [DecidablePred p] [DecidablePred p'] (k : ℕ)
    (hx : ∀ s < k, x s = x' s) (hp : ∀ s < k, (p s ↔ p' s)) :
    refRun Wi Wh bi bh x p k = refRun Wi Wh bi bh x' p' k := by
  induction k with
  | zero => rfl
  | succ k ih =>
    funext j
    simp only [refRun, ih (fun s h => hx s (by omega)) (fun s h => hp s (by omega)), hx k (by omega), hp k (by omega)]

theorem fin_mod (s : ℕ) (hs : s < 16) : (⟨s % 16, Nat.mod_lt _ (by decide)⟩ : Fin 16) = ⟨s, hs⟩ := Fin.ext (Nat.mod_eq_of_lt hs)

/-- The forward operands: position `k` of every word. -/
theorem fwd_xs (tab : FVec Ideal S96x64 .f32) (w : IVec S7200x16 32) (h : ∀ i k, (w (ix2 i k)).toNat < 96)
    (k : Fin 16) (i : Fin 7200) (e : Fin 64) :
    transpose S16x7200x64 [1, 0, 2] (taken tab w) transposes_S7200x16x64_S16x7200x64_1_0_2 (ix3 k i e)
      = charRow (fun v e => tab (ix2 v e)) (fun k => w (ix2 i k)) k.val e := by
  rw [← taken_at tab w h i k e]
  generalize taken tab w = t
  pointwise []

theorem fwd_ms (w : IVec S7200x16 32) (k : Fin 16) (i : Fin 7200) :
    transpose S16x7200 [1, 0] (within w) transposes_S7200x16_S16x7200_1_0 (ix2 k i) = 1#1 ↔ inWord (fun k => w (ix2 i k)) k.val := by
  rw [← within_at w i k]
  generalize within w = t
  pointwise []

/-- A reversed axis of positions. -/
theorem rev3 (x : FVec Ideal S16x7200x64 .f32) (k : Fin 16) (i : Fin 7200) (e : Fin 64) :
    Host.reverse [0] x (ix3 k i e) = x (ix3 k.rev i e) :=
  congrArg x (funext fun a => by fin_cases a <;> rfl)

theorem rev2 (x : IVec S16x7200 1) (k : Fin 16) (i : Fin 7200) : Host.reverse [0] x (ix2 k i) = x (ix2 k.rev i) :=
  congrArg x (funext fun a => by fin_cases a <;> rfl)

variable (m : (ℓ : Loc nD τ sig) → Buf (Elt Ideal) ℓ) (c : Dev nD)

/-- Both directions' states after the loop. -/
theorem final13 (h : ∀ i k, (wordsOf m c (ix2 i k)).toNat < 96) (i : Fin 7200) (j : Fin 100) :
    (STEP^[16] (entryContents preI m c) (Proc.devRef .tc main_v19_13) : FVec Ideal S7200x100 .f32) (ix2 i j)
      = refRun (fun r e => (m ((c : Thread nD τ).loc main_arg5) : FVec Ideal S300x64 .f32) (ix2 r e))
          (fun r e => (m ((c : Thread nD τ).loc main_arg6) : FVec Ideal S300x100 .f32) (ix2 r e))
          (fun r => (m ((c : Thread nD τ).loc main_arg7) : FVec Ideal S300 .f32) (ix1 r))
          (fun r => (m ((c : Thread nD τ).loc main_arg8) : FVec Ideal S300 .f32) (ix1 r))
          (charRow (fun v e => (m ((c : Thread nD τ).loc main_arg4) : FVec Ideal S96x64 .f32) (ix2 v e)) (fun k => wordsOf m c (ix2 i k)))
          (inWord (fun k => wordsOf m c (ix2 i k))) 16 j := by
  obtain ⟨e4, e5, e6, e7, -, -, -, -⟩ := entry_weights m c
  refine (iter13 _ (entry_ctr m c) (entry_zero13 m c) 16 le_rfl i j).trans ?_
  rw [e4, e5, e6, e7, entry_xs, entry_ms]
  unfold carried
  refine congrFun (refRun_congr _ _ _ _ _ _ _ _ 16 (fun s hs => ?_) (fun s hs => ?_)) j
  · funext e
    rw [fin_mod s hs]
    exact fwd_xs _ _ h ⟨s, hs⟩ i e
  · rw [fin_mod s hs]
    exact fwd_ms _ ⟨s, hs⟩ i

theorem final14 (h : ∀ i k, (wordsOf m c (ix2 i k)).toNat < 96) (i : Fin 7200) (j : Fin 100) :
    (STEP^[16] (entryContents preI m c) (Proc.devRef .tc main_v19_14) : FVec Ideal S7200x100 .f32) (ix2 i j)
      = refRun (fun r e => (m ((c : Thread nD τ).loc main_arg9) : FVec Ideal S300x64 .f32) (ix2 r e))
          (fun r e => (m ((c : Thread nD τ).loc main_arg10) : FVec Ideal S300x100 .f32) (ix2 r e))
          (fun r => (m ((c : Thread nD τ).loc main_arg11) : FVec Ideal S300 .f32) (ix1 r))
          (fun r => (m ((c : Thread nD τ).loc main_arg12) : FVec Ideal S300 .f32) (ix1 r))
          (fun s => charRow (fun v e => (m ((c : Thread nD τ).loc main_arg4) : FVec Ideal S96x64 .f32) (ix2 v e)) (fun k => wordsOf m c (ix2 i k)) (15 - s))
          (fun s => inWord (fun k => wordsOf m c (ix2 i k)) (15 - s)) 16 j := by
  obtain ⟨-, -, -, -, e8, e9, e10, e11⟩ := entry_weights m c
  refine (iter14 _ (entry_ctr m c) (entry_zero14 m c) 16 le_rfl i j).trans ?_
  rw [e8, e9, e10, e11, entry_xs', entry_ms']
  unfold carried
  have er : ∀ s (hs : s < 16), (Fin.rev (⟨s, hs⟩ : Fin 16)).val = 15 - s := fun s hs => by
    rw [Fin.val_rev]
    show 16 - (s + 1) = 15 - s
    omega
  refine congrFun (refRun_congr _ _ _ _ _ _ _ _ 16 (fun s hs => ?_) (fun s hs => ?_)) j
  · funext e
    rw [fin_mod s hs, rev3, ← er s hs]
    exact fwd_xs _ _ h (Fin.rev ⟨s, hs⟩) i e
  · rw [fin_mod s hs, rev2, ← er s hs]
    exact fwd_ms _ (Fin.rev ⟨s, hs⟩) i

/-- The weights of each direction. -/
abbrev wF : Weights := ⟨fun r e => (m ((c : Thread nD τ).loc main_arg5) : FVec Ideal S300x64 .f32) (ix2 r e),
  fun r e => (m ((c : Thread nD τ).loc main_arg6) : FVec Ideal S300x100 .f32) (ix2 r e),
  fun r => (m ((c : Thread nD τ).loc main_arg7) : FVec Ideal S300 .f32) (ix1 r),
  fun r => (m ((c : Thread nD τ).loc main_arg8) : FVec Ideal S300 .f32) (ix1 r)⟩
abbrev wB : Weights := ⟨fun r e => (m ((c : Thread nD τ).loc main_arg9) : FVec Ideal S300x64 .f32) (ix2 r e),
  fun r e => (m ((c : Thread nD τ).loc main_arg10) : FVec Ideal S300x100 .f32) (ix2 r e),
  fun r => (m ((c : Thread nD τ).loc main_arg11) : FVec Ideal S300 .f32) (ix1 r),
  fun r => (m ((c : Thread nD τ).loc main_arg12) : FVec Ideal S300 .f32) (ix1 r)⟩

/-- The two states side by side, at one word. -/
theorem joined (h : ∀ i k, (wordsOf m c (ix2 i k)).toNat < 96) (i : Fin 7200) (j : Fin 200) :
    concatenate S7200x200 1 [⟨S7200x100, (STEP^[16] (entryContents preI m c) (Proc.devRef .tc main_v19_13) : FVec Ideal S7200x100 .f32)⟩,
        ⟨S7200x100, (STEP^[16] (entryContents preI m c) (Proc.devRef .tc main_v19_14) : FVec Ideal S7200x100 .f32)⟩] concatenates_S7200x100_S7200x100_S7200x200_d1 (ix2 i j)
      = word (fun v e => (m ((c : Thread nD τ).loc main_arg4) : FVec Ideal S96x64 .f32) (ix2 v e)) (wF m c) (wB m c)
          (fun k => wordsOf m c (ix2 i k)) j := by
  have h13 := final13 m c h
  have h14 := final14 m c h
  generalize (STEP^[16] (entryContents preI m c) (Proc.devRef .tc main_v19_13) : FVec Ideal S7200x100 .f32) = x at h13 ⊢
  generalize (STEP^[16] (entryContents preI m c) (Proc.devRef .tc main_v19_14) : FVec Ideal S7200x100 .f32) = y at h14 ⊢
  unfold word
  pointwise []
  simp only [h13, h14]

/-- The first result holds the first 6400 words' values. -/
theorem result0 (h : ∀ i k, (wordsOf m c (ix2 i k)).toNat < 96) (i : Fin 6400) (j : Fin 200) :
    (out_main_v21 (STEP^[16] (entryContents preI m c)) : FVec Ideal S6400x200 .f32) (ix2 i j)
      = word (fun v e => (m ((c : Thread nD τ).loc main_arg4) : FVec Ideal S96x64 .f32) (ix2 v e)) (wF m c) (wB m c)
          (fun k => shapeCast S6400x16 (m ((c : Thread nD τ).loc main_arg2) : IVec S16x400x16 32) shapeCasts_S16x400x16_S6400x16 (ix2 i k)) j := by
  have e := joined m c h ⟨i.val, by omega⟩ j
  simp only [wordsOf, words_at, i.isLt, dif_pos] at e
  refine Eq.trans ?_ e
  unfold out_main_v21
  generalize concatenate S7200x200 1 _ _ = z
  pointwise []

/-- The second result holds the last 800 words' values. -/
theorem result1 (h : ∀ i k, (wordsOf m c (ix2 i k)).toNat < 96) (i : Fin 800) (j : Fin 200) :
    (out_main_v22 (STEP^[16] (entryContents preI m c)) : FVec Ideal S800x200 .f32) (ix2 i j)
      = word (fun v e => (m ((c : Thread nD τ).loc main_arg4) : FVec Ideal S96x64 .f32) (ix2 v e)) (wF m c) (wB m c)
          (fun k => shapeCast S800x16 (m ((c : Thread nD τ).loc main_arg3) : IVec S16x50x16 32) shapeCasts_S16x50x16_S800x16 (ix2 i k)) j := by
  have e := joined m c h ⟨6400 + i.val, by omega⟩ j
  have hn : ¬ 6400 + i.val < 6400 := by omega
  simp only [wordsOf, words_at, hn, dif_neg, not_false_iff, Nat.add_sub_cancel_left] at e
  refine Eq.trans ?_ e
  unfold out_main_v22
  generalize concatenate S7200x200 1 _ _ = z
  pointwise []

end Cert.ReferenceIdeal.Trip
-- ==== Proof.Pre.lean ====
/- What the precondition says of the arguments: every character is a row of the embedding table, and the candidate's
   recurrent weights and bias are finite, in both directions. -/
module

public import proofs.«01_k».proof.Proof.Gen.Pre_in_domain
public import proofs.«01_k».proof.Proof.Gru
public import Idealize.ShloMosaic.Lib.ReduceAll
public import Idealize.ShloMosaic.Lib.Affine
public import Idealize.ShloMosaic.Lib.Pointwise

@[expose] public section

set_option maxRecDepth 65536
set_option maxHeartbeats 2000000

noncomputable section

namespace Cert.Pre_in_domain.Meaning

open Idealize.ShloMosaic Idealize.SL.Sem
open Cert.Pre_in_domain Cert.Pre_in_domain.Gen
open Cert.Gru

theorem ofBool_one (b : Bool) (h : BitVec.ofBool b = 1#1) : b = true := by
  cases b
  · exact absurd h (by decide)
  · rfl

/-- A word between 0 and 96, signed, is below 96. -/
theorem char_lt (w : BitVec 32) (h : IntOp.andi (IntOp.cmpi .sge w 0#32) (IntOp.cmpi .slt w 96#32) = 1#1) : w.toNat < 96 := by
  obtain ⟨h1, h2⟩ := IntOp.andi_eq_one.mp h
  have h1 : (0#32 : BitVec 32).toInt ≤ w.toInt := of_decide_eq_true (ofBool_one _ h1)
  have h2 : w.toInt < (96#32 : BitVec 32).toInt := of_decide_eq_true (ofBool_one _ h2)
  have e0 : (0#32 : BitVec 32).toInt = 0 := by decide
  have e96 : (96#32 : BitVec 32).toInt = 96 := by decide
  rw [e0] at h1
  rw [e96] at h2
  rw [BitVec.toInt_eq_toNat_cond] at h1 h2
  split at h1 <;> omega

/-- Whatever the bound, a magnitude below it is no infinity. -/
theorem real_of_lt (x b : EReal) (h : Ideal.cmp .olt (max x (-x)) b = 1#1) : ∃ t : ℝ, x = (t : EReal) := by
  have hlt : max x (-x) < b := by
    unfold Ideal.cmp at h
    by_contra hn
    simp [hn] at h
  induction x with
  | coe t => exact ⟨t, rfl⟩
  | bot => exact absurd hlt (by simp)
  | top => exact absurd hlt (by simp)

variable (a0 : IVec S16x400 32) (a1 : IVec S16x50 32) (a2 : IVec S16x400x16 32) (a3 : IVec S16x50x16 32)
  (a4 : FVec Ideal S96x64 .f32) (a5 : FVec Ideal S300x64 .f32) (a6 : FVec Ideal S300x100 .f32) (a7 a8 : FVec Ideal S300 .f32)
  (a9 : FVec Ideal S300x64 .f32) (a10 : FVec Ideal S300x100 .f32) (a11 a12 : FVec Ideal S300 .f32)

/-- The candidate's rows of the recurrent weights, finite where the slice's magnitudes are below a bound. -/
theorem weights_real (W : FVec Ideal S300x100 .f32) (b : FVec Ideal S100x100 .f32)
    (h : ∀ y, cmpf .olt (Host.absf (extractStridedSlice S100x100 ![200, 0] W slices_S300x100_S100x100_200_0)) b y = 1#1)
    (j k : Fin 100) : ∃ t : ℝ, W (ix2 (row 2 j) k) = (t : EReal) := by
  have e : extractStridedSlice S100x100 ![200, 0] W slices_S300x100_S100x100_200_0 (ix2 j k) = W (ix2 (row 2 j) k) := by
    unfold row
    pointwise []
  rw [← e]
  exact real_of_lt _ (b (ix2 j k)) (h (ix2 j k))

theorem bias_real (W : FVec Ideal S300 .f32) (b : FVec Ideal S100 .f32)
    (h : ∀ y, cmpf .olt (Host.absf (extractStridedSlice S100 ![200] W slices_S300_S100_200)) b y = 1#1)
    (j : Fin 100) : ∃ t : ℝ, W (ix1 (row 2 j)) = (t : EReal) := by
  have e : extractStridedSlice S100 ![200] W slices_S300_S100_200 (ix1 j) = W (ix1 (row 2 j)) := by
    unfold row
    pointwise []
  rw [← e]
  exact real_of_lt _ (b (ix1 j)) (h (ix1 j))

/-- The precondition, read. -/
theorem meaning (h : fn (F := Ideal) a0 a1 a2 a3 a4 a5 a6 a7 a8 a9 a10 a11 a12 = fun _ => 1#1) :
    (∀ y, (a2 y).toNat < 96) ∧ (∀ y, (a3 y).toNat < 96)
    ∧ Finite (fun r k => a6 (ix2 r k)) (fun r => a8 (ix1 r)) ∧ Finite (fun r k => a10 (ix2 r k)) (fun r => a12 (ix1 r)) := by
  have h0 := congrFun h (Shape.Idx.first h_S_)
  unfold fn fn_part1 fn_part2 at h0
  obtain ⟨h0, r12⟩ := IntOp.andi_eq_one.mp h0
  obtain ⟨h0, r10⟩ := IntOp.andi_eq_one.mp h0
  obtain ⟨h0, r8⟩ := IntOp.andi_eq_one.mp h0
  obtain ⟨h0, r6⟩ := IntOp.andi_eq_one.mp h0
  obtain ⟨r2, r3⟩ := IntOp.andi_eq_one.mp h0
  refine ⟨fun y => char_lt _ (Host.reduce_andi_all _ _ _ _ _ r2 y), fun y => char_lt _ (Host.reduce_andi_all _ _ _ _ _ r3 y),
    ⟨weights_real _ _ fun y => Host.reduce_andi_all _ _ _ _ _ r6 y, bias_real _ _ fun y => Host.reduce_andi_all _ _ _ _ _ r8 y⟩,
    ⟨weights_real _ _ fun y => Host.reduce_andi_all _ _ _ _ _ r10 y, bias_real _ _ fun y => Host.reduce_andi_all _ _ _ _ _ r12 y⟩⟩

end Cert.Pre_in_domain.Meaning
-- ==== Proof.Values.lean ====
/- Both programs compute the same two results from arguments the precondition admits. -/
module

public import proofs.«01_k».proof.Defs
public import proofs.«01_k».proof.Proof.KerRun
public import proofs.«01_k».proof.Proof.RefValue
public import proofs.«01_k».proof.Proof.Pre

@[expose] public section

set_option maxRecDepth 65536
set_option maxHeartbeats 2000000

noncomputable section

namespace Cert.Values

open Idealize.ShloMosaic Idealize.ShloMosaic.TcCoe Idealize.SL.Sem
open Cert.Gru

/-- A reshape's elements are its operand's. -/
theorem cast_lt {s t : Shape} (x : IVec s 32) (h : s.ShapeCasts t) (hx : ∀ y, (x y).toNat < 96) (y : t.Idx) :
    (shapeCast t x h y).toNat < 96 := hx _

section
open Cert.ReferenceIdeal Cert.ReferenceIdeal.Gen Cert.ReferenceIdeal.Trip

/-- Every character of every word is a row of the table. -/
theorem words_lt (m : (ℓ : Loc nD τ sig) → Buf (Elt Ideal) ℓ) (c : Dev nD)
    (h2 : ∀ y, ((m ((c : Thread nD τ).loc main_arg2) : IVec S16x400x16 32) y).toNat < 96)
    (h3 : ∀ y, ((m ((c : Thread nD τ).loc main_arg3) : IVec S16x50x16 32) y).toNat < 96) (i : Fin 7200) (k : Fin 16) :
    (wordsOf m c (ix2 i k)).toNat < 96 := by
  unfold wordsOf
  rw [words_at]
  split
  · exact cast_lt _ _ h2 _
  · exact cast_lt _ _ h3 _

end

theorem algebraic : Cert.algebraic_KernelIdeal_ReferenceIdeal_pre_in_domain := by
  intro m g m' g' hp ha
  have hm := fun c => Cert.Pre_in_domain.Meaning.meaning _ _ _ _ _ _ _ _ _ _ _ _ _ (hp c)
  refine ⟨fun c => Cert.KernelIdeal.Region.values (R := 6400) (Cert.KernelIdeal.Run.ch m c) (m ((c.tc : Thread Cert.KernelIdeal.nD Cert.KernelIdeal.τ).loc Cert.KernelIdeal.main_arg4))
      (Cert.KernelIdeal.Run.wF m c) (Cert.KernelIdeal.Run.wB m c),
    fun c => Cert.KernelIdeal.Region.values (R := 800) (Cert.KernelIdeal.Run.qh m c) (m ((c.tc : Thread Cert.KernelIdeal.nD Cert.KernelIdeal.τ).loc Cert.KernelIdeal.main_arg4))
      (Cert.KernelIdeal.Run.wF m c) (Cert.KernelIdeal.Run.wB m c), ?_, ?_⟩
  · refine (θ_run Cert.KernelIdeal.defs _ _).mono (fun r h c => ?_) (Cert.KernelIdeal.Run.run m g)
    obtain ⟨h2, h3, hf, hb⟩ := hm c
    refine ⟨(h c _ (Cert.KernelIdeal.Gen.mem_uc Cert.KernelIdeal.main_v71 (by decide))).trans (Cert.KernelIdeal.Run.result0 m g c hf hb fun i k => cast_lt _ _ h2 _),
      (h c _ (Cert.KernelIdeal.Gen.mem_uc Cert.KernelIdeal.main_v73 (by decide))).trans (Cert.KernelIdeal.Run.result1 m g c hf hb fun i k => cast_lt _ _ h3 _),
      (h c _ (Cert.KernelIdeal.Gen.mem_uc _ (by decide))).trans (Cert.KernelIdeal.Gen.W28_main_arg0 m g c),
      (h c _ (Cert.KernelIdeal.Gen.mem_uc _ (by decide))).trans (Cert.KernelIdeal.Gen.W28_main_arg1 m g c),
      (h c _ (Cert.KernelIdeal.Gen.mem_uc _ (by decide))).trans (Cert.KernelIdeal.Gen.W28_main_arg2 m g c),
      (h c _ (Cert.KernelIdeal.Gen.mem_uc _ (by decide))).trans (Cert.KernelIdeal.Gen.W28_main_arg3 m g c),
      (h c _ (Cert.KernelIdeal.Gen.mem_uc _ (by decide))).trans (Cert.KernelIdeal.Gen.W28_main_arg4 m g c),
      (h c _ (Cert.KernelIdeal.Gen.mem_uc _ (by decide))).trans (Cert.KernelIdeal.Gen.W28_main_arg5 m g c),
      (h c _ (Cert.KernelIdeal.Gen.mem_uc _ (by decide))).trans (Cert.KernelIdeal.Gen.W28_main_arg6 m g c),
      (h c _ (Cert.KernelIdeal.Gen.mem_uc _ (by decide))).trans (Cert.KernelIdeal.Gen.W28_main_arg7 m g c),
      (h c _ (Cert.KernelIdeal.Gen.mem_uc _ (by decide))).trans (Cert.KernelIdeal.Gen.W28_main_arg8 m g c),
      (h c _ (Cert.KernelIdeal.Gen.mem_uc _ (by decide))).trans (Cert.KernelIdeal.Gen.W28_main_arg9 m g c),
      (h c _ (Cert.KernelIdeal.Gen.mem_uc _ (by decide))).trans (Cert.KernelIdeal.Gen.W28_main_arg10 m g c),
      (h c _ (Cert.KernelIdeal.Gen.mem_uc _ (by decide))).trans (Cert.KernelIdeal.Gen.W28_main_arg11 m g c),
      (h c _ (Cert.KernelIdeal.Gen.mem_uc _ (by decide))).trans (Cert.KernelIdeal.Gen.W28_main_arg12 m g c)⟩
  · refine (θ_run Cert.ReferenceIdeal.defs _ _).mono (fun r h c => ?_) (Cert.ReferenceIdeal.Value.run m' g')
    obtain ⟨h2, h3, -, -⟩ := hm c
    obtain ⟨-, -, a2, a3, a4, a5, a6, a7, a8, a9, a10, a11, a12⟩ := ha c
    rw [← a2] at h2
    rw [← a3] at h3
    have hw := words_lt m' c h2 h3
    refine ⟨(h c).1.trans (funext fun y => ?_), (h c).2.1.trans (funext fun y => ?_), (h c).2.2⟩
    · rw [eq_ix2 y]
      refine (Cert.ReferenceIdeal.Trip.result0 m' c hw (y 0) (y 1)).trans ?_
      unfold Cert.ReferenceIdeal.Trip.wF Cert.ReferenceIdeal.Trip.wB
      rw [a2, a4, a5, a6, a7, a8, a9, a10, a11, a12]
      rfl
    · rw [eq_ix2 y]
      refine (Cert.ReferenceIdeal.Trip.result1 m' c hw (y 0) (y 1)).trans ?_
      unfold Cert.ReferenceIdeal.Trip.wF Cert.ReferenceIdeal.Trip.wB
      rw [a3, a4, a5, a6, a7, a8, a9, a10, a11, a12]
      rfl

end Cert.Values
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_domain
public import proofs.«01_k».proof.Proof.Values
public import Idealize.ShloMosaic.Lib.Quiescent
public import Idealize.ShloMosaic.Adequacy
public import Idealize.ShloMosaic.Init

@[expose] public section

noncomputable section

namespace Cert.Proof

open Idealize.ShloMosaic Idealize.SL.Sem

/-- The reference leaves its arguments as they are, and uses no semaphore. -/
theorem reference_frame : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

theorem claim : Cert.Claim :=
  ⟨Cert.Kernel.Gen.facts, Cert.KernelIdeal.Gen.facts, Cert.ReferenceIdeal.Gen.facts, Cert.Pre_in_domain.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    Cert.Values.algebraic⟩

end Cert.Proof

end
